-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S672x768 : Shape := ⟨2, ![672, 768]⟩
abbrev S18 : Shape := ⟨1, ![18]⟩
abbrev S_ : Shape := ⟨0, ![]⟩
abbrev S1 : Shape := ⟨1, ![1]⟩
abbrev S128x768 : Shape := ⟨2, ![128, 768]⟩
abbrev S64x768 : Shape := ⟨2, ![64, 768]⟩
abbrev S32x768 : Shape := ⟨2, ![32, 768]⟩

abbrev nBuf : Space → Nat
  | .hbm => 3
  | .vmem => 4
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S672x768, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v16 : BitVec 32 := Scalar.xori v2 c1_i32_10
  let c1_i32_12 : BitVec 32 := 1#32
  let v17 : BitVec 32 := Scalar.muli v16 c1_i32_12
  let v18 : BitVec 32 := Scalar.addi c0_i32_13 v17
  v18.toNat
def k0_off1 (d0 : Dev nD) (c0_i32_19 : BitVec 32) (c2_i32 : BitVec 32) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v19 : BitVec 32 := Scalar.shrsi v2 c2_i32
  let c1_i32_15 : BitVec 32 := 1#32
  let v20 : BitVec 32 := Scalar.andi v19 c1_i32_15
  let v23 : BitVec 32 := Scalar.subi c1_i32_17 v20
  let c128_i32_18 : BitVec 32 := 128#32
  let v24 : BitVec 32 := Scalar.muli v23 c128_i32_18
  let v25 : BitVec 32 := Scalar.addi c0_i32_19 v24
  let c0_i32_27 : BitVec 32 := 0#32
  ![v25.toNat, 0]
def k0_off1_at (r : Fin 2) : BitVec 32 × BitVec 32 :=
  if r.val < 1 then
    (0#32, 2#32)
  else
    (256#32, 1#32)
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v26 : BitVec 32 := Scalar.xori v2 c4_i32_20
  let c1_i32_23 : BitVec 32 := 1#32
  let v27 : BitVec 32 := Scalar.muli v26 c1_i32_23
  let v28 : BitVec 32 := Scalar.addi c0_i32_24 v27
  v28.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v42 : BitVec 32 := Scalar.xori v2 c3_i32_34
  let c1_i32_36 : BitVec 32 := 1#32
  let v43 : BitVec 32 := Scalar.muli v42 c1_i32_36
  let v44 : BitVec 32 := Scalar.addi c0_i32_37 v43
  v44.toNat
def k0_off2 (d0 : Dev nD) : Fin 2 → Nat :=
  let c512_i32_45 : BitVec 32 := 512#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let v56 : BitVec 32 := Scalar.subi c1_i32_43 v53
  let c128_i32_44 : BitVec 32 := 128#32
  let v57 : BitVec 32 := Scalar.muli v56 c128_i32_44
  let v58 : BitVec 32 := Scalar.addi c512_i32_45 v57
  let c0_i32_51 : BitVec 32 := 0#32
  ![v58.toNat, 0]
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v59 : BitVec 32 := Scalar.xori v2 c1_i32_46
  let c1_i32_48 : BitVec 32 := 1#32
  let v60 : BitVec 32 := Scalar.muli v59 c1_i32_48
  let v61 : BitVec 32 := Scalar.addi c0_i32_49 v60
  v61.toNat
def k0_off3 (d0 : Dev nD) (c0_i32_16 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let v78 : Index := Scalar.indexCast v22
  let c0_65 : Index := 0#32
  ![v78.toNat, 0]
def k0_off3_at (r : Fin 2) : BitVec 32 × BitVec 32 :=
  if r.val < 1 then
    (0#32, 2#32)
  else
    (256#32, 1#32)
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let v112 : Index := Scalar.indexCast v55
  let c0_98 : Index := 0#32
  ![v112.toNat, 0]
def k0_off5 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_103 : BitVec 32 := 1#32
  let c1_i32_101 : BitVec 32 := 1#32
  let v119 : BitVec 32 := Scalar.shrsi v2 c1_i32_101
  let c1_i32_102 : BitVec 32 := 1#32
  let v120 : BitVec 32 := Scalar.andi v119 c1_i32_102
  let v123 : BitVec 32 := Scalar.subi c1_i32_103 v120
  let c64_i32_104 : BitVec 32 := 64#32
  let v124 : BitVec 32 := Scalar.muli v123 c64_i32_104
  let v125 : BitVec 32 := Scalar.addi v22 v124
  let c0_i32_112 : BitVec 32 := 0#32
  ![v125.toNat, 0]
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v126 : BitVec 32 := Scalar.xori v2 c3_i32_105
  let c1_i32_108 : BitVec 32 := 1#32
  let v127 : BitVec 32 := Scalar.muli v126 c1_i32_108
  let v128 : BitVec 32 := Scalar.addi c0_i32_109 v127
  v128.toNat
def k0_off6 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_116 : BitVec 32 := 1#32
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let v140 : BitVec 32 := Scalar.subi c1_i32_116 v137
  let c64_i32_117 : BitVec 32 := 64#32
  let v141 : BitVec 32 := Scalar.muli v140 c64_i32_117
  let v142 : BitVec 32 := Scalar.addi v38 v141
  let c0_i32_123 : BitVec 32 := 0#32
  ![v142.toNat, 0]
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v143 : BitVec 32 := Scalar.xori v2 c1_i32_118
  let c1_i32_120 : BitVec 32 := 1#32
  let v144 : BitVec 32 := Scalar.muli v143 c1_i32_120
  let v145 : BitVec 32 := Scalar.addi c0_i32_121 v144
  v145.toNat
def k0_off7 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c1_i32_127 : BitVec 32 := 1#32
  let c2_i32_124 : BitVec 32 := 2#32
  let v152 : BitVec 32 := Scalar.shrsi v2 c2_i32_124
  let c1_i32_125 : BitVec 32 := 1#32
  let v153 : BitVec 32 := Scalar.andi v152 c1_i32_125
  let v156 : BitVec 32 := Scalar.subi c1_i32_127 v153
  let c64_i32_128 : BitVec 32 := 64#32
  let v157 : BitVec 32 := Scalar.muli v156 c64_i32_128
  let v158 : BitVec 32 := Scalar.addi v55 v157
  let c0_i32_134 : BitVec 32 := 0#32
  ![v158.toNat, 0]
def k0_dev9 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_129 : BitVec 32 := 4#32
  let v159 : BitVec 32 := Scalar.xori v2 c4_i32_129
  let c1_i32_131 : BitVec 32 := 1#32
  let v160 : BitVec 32 := Scalar.muli v159 c1_i32_131
  let v161 : BitVec 32 := Scalar.addi c0_i32_132 v160
  v161.toNat
def k0_off8 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_101 : BitVec 32 := 1#32
  let v119 : BitVec 32 := Scalar.shrsi v2 c1_i32_101
  let c1_i32_102 : BitVec 32 := 1#32
  let v120 : BitVec 32 := Scalar.andi v119 c1_i32_102
  let c64_i32 : BitVec 32 := 64#32
  let v121 : BitVec 32 := Scalar.muli v120 c64_i32
  let v122 : BitVec 32 := Scalar.addi v22 v121
  let v178 : Index := Scalar.indexCast v122
  let c0_148 : Index := 0#32
  ![v178.toNat, 0]
def k0_off9 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let c64_i32_115 : BitVec 32 := 64#32
  let v138 : BitVec 32 := Scalar.muli v137 c64_i32_115
  let v139 : BitVec 32 := Scalar.addi v38 v138
  let v195 : Index := Scalar.indexCast v139
  let c0_164 : Index := 0#32
  ![v195.toNat, 0]
def k0_off10 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c2_i32_124 : BitVec 32 := 2#32
  let v152 : BitVec 32 := Scalar.shrsi v2 c2_i32_124
  let c1_i32_125 : BitVec 32 := 1#32
  let v153 : BitVec 32 := Scalar.andi v152 c1_i32_125
  let c64_i32_126 : BitVec 32 := 64#32
  let v154 : BitVec 32 := Scalar.muli v153 c64_i32_126
  let v155 : BitVec 32 := Scalar.addi v55 v154
  let v212 : Index := Scalar.indexCast v155
  let c0_180 : Index := 0#32
  ![v212.toNat, 0]
def k0_off11 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_101 : BitVec 32 := 1#32
  let v119 : BitVec 32 := Scalar.shrsi v2 c1_i32_101
  let c1_i32_102 : BitVec 32 := 1#32
  let v120 : BitVec 32 := Scalar.andi v119 c1_i32_102
  let c64_i32 : BitVec 32 := 64#32
  let v121 : BitVec 32 := Scalar.muli v120 c64_i32
  let v122 : BitVec 32 := Scalar.addi v22 v121
  let c1_i32_185 : BitVec 32 := 1#32
  let c1_i32_183 : BitVec 32 := 1#32
  let v219 : BitVec 32 := Scalar.shrsi v2 c1_i32_183
  let v220 : BitVec 32 := Scalar.xori v2 v219
  let c1_i32_184 : BitVec 32 := 1#32
  let v221 : BitVec 32 := Scalar.andi v220 c1_i32_184
  let v224 : BitVec 32 := Scalar.subi c1_i32_185 v221
  let c32_i32_186 : BitVec 32 := 32#32
  let v225 : BitVec 32 := Scalar.muli v224 c32_i32_186
  let v226 : BitVec 32 := Scalar.addi v122 v225
  let c0_i32_193 : BitVec 32 := 0#32
  ![v226.toNat, 0]
def k0_dev10 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v227 : BitVec 32 := Scalar.xori v2 c1_i32_187
  let c1_i32_190 : BitVec 32 := 1#32
  let v228 : BitVec 32 := Scalar.muli v227 c1_i32_190
  let v229 : BitVec 32 := Scalar.addi c0_i32_191 v228
  v229.toNat
def k0_off12 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let c64_i32_115 : BitVec 32 := 64#32
  let v138 : BitVec 32 := Scalar.muli v137 c64_i32_115
  let v139 : BitVec 32 := Scalar.addi v38 v138
  let c1_i32_197 : BitVec 32 := 1#32
  let c2_i32_194 : BitVec 32 := 2#32
  let v236 : BitVec 32 := Scalar.shrsi v2 c2_i32_194
  let c1_i32_195 : BitVec 32 := 1#32
  let v237 : BitVec 32 := Scalar.andi v236 c1_i32_195
  let v240 : BitVec 32 := Scalar.subi c1_i32_197 v237
  let c32_i32_198 : BitVec 32 := 32#32
  let v241 : BitVec 32 := Scalar.muli v240 c32_i32_198
  let v242 : BitVec 32 := Scalar.addi v139 v241
  let c0_i32_205 : BitVec 32 := 0#32
  ![v242.toNat, 0]
def k0_dev11 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_199 : BitVec 32 := 4#32
  let v243 : BitVec 32 := Scalar.xori v2 c4_i32_199
  let c1_i32_202 : BitVec 32 := 1#32
  let v244 : BitVec 32 := Scalar.muli v243 c1_i32_202
  let v245 : BitVec 32 := Scalar.addi c0_i32_203 v244
  v245.toNat
def k0_off13 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c2_i32_124 : BitVec 32 := 2#32
  let v152 : BitVec 32 := Scalar.shrsi v2 c2_i32_124
  let c1_i32_125 : BitVec 32 := 1#32
  let v153 : BitVec 32 := Scalar.andi v152 c1_i32_125
  let c64_i32_126 : BitVec 32 := 64#32
  let v154 : BitVec 32 := Scalar.muli v153 c64_i32_126
  let v155 : BitVec 32 := Scalar.addi v55 v154
  let c1_i32_209 : BitVec 32 := 1#32
  let c1_i32_206 : BitVec 32 := 1#32
  let v252 : BitVec 32 := Scalar.shrsi v2 c1_i32_206
  let c1_i32_207 : BitVec 32 := 1#32
  let v253 : BitVec 32 := Scalar.andi v252 c1_i32_207
  let v256 : BitVec 32 := Scalar.subi c1_i32_209 v253
  let c32_i32_210 : BitVec 32 := 32#32
  let v257 : BitVec 32 := Scalar.muli v256 c32_i32_210
  let v258 : BitVec 32 := Scalar.addi v155 v257
  let c0_i32_216 : BitVec 32 := 0#32
  ![v258.toNat, 0]
def k0_dev12 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v259 : BitVec 32 := Scalar.xori v2 c3_i32_211
  let c1_i32_213 : BitVec 32 := 1#32
  let v260 : BitVec 32 := Scalar.muli v259 c1_i32_213
  let v261 : BitVec 32 := Scalar.addi c0_i32_214 v260
  v261.toNat
def k0_off14 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_101 : BitVec 32 := 1#32
  let v119 : BitVec 32 := Scalar.shrsi v2 c1_i32_101
  let c1_i32_102 : BitVec 32 := 1#32
  let v120 : BitVec 32 := Scalar.andi v119 c1_i32_102
  let c64_i32 : BitVec 32 := 64#32
  let v121 : BitVec 32 := Scalar.muli v120 c64_i32
  let v122 : BitVec 32 := Scalar.addi v22 v121
  let c1_i32_183 : BitVec 32 := 1#32
  let v219 : BitVec 32 := Scalar.shrsi v2 c1_i32_183
  let v220 : BitVec 32 := Scalar.xori v2 v219
  let c1_i32_184 : BitVec 32 := 1#32
  let v221 : BitVec 32 := Scalar.andi v220 c1_i32_184
  let c32_i32 : BitVec 32 := 32#32
  let v222 : BitVec 32 := Scalar.muli v221 c32_i32
  let v223 : BitVec 32 := Scalar.addi v122 v222
  let v278 : Index := Scalar.indexCast v223
  let c0_230 : Index := 0#32
  ![v278.toNat, 0]
def k0_off15 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let c64_i32_115 : BitVec 32 := 64#32
  let v138 : BitVec 32 := Scalar.muli v137 c64_i32_115
  let v139 : BitVec 32 := Scalar.addi v38 v138
  let c2_i32_194 : BitVec 32 := 2#32
  let v236 : BitVec 32 := Scalar.shrsi v2 c2_i32_194
  let c1_i32_195 : BitVec 32 := 1#32
  let v237 : BitVec 32 := Scalar.andi v236 c1_i32_195
  let c32_i32_196 : BitVec 32 := 32#32
  let v238 : BitVec 32 := Scalar.muli v237 c32_i32_196
  let v239 : BitVec 32 := Scalar.addi v139 v238
  let v295 : Index := Scalar.indexCast v239
  let c0_246 : Index := 0#32
  ![v295.toNat, 0]
def k0_off16 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c2_i32_124 : BitVec 32 := 2#32
  let v152 : BitVec 32 := Scalar.shrsi v2 c2_i32_124
  let c1_i32_125 : BitVec 32 := 1#32
  let v153 : BitVec 32 := Scalar.andi v152 c1_i32_125
  let c64_i32_126 : BitVec 32 := 64#32
  let v154 : BitVec 32 := Scalar.muli v153 c64_i32_126
  let v155 : BitVec 32 := Scalar.addi v55 v154
  let c1_i32_206 : BitVec 32 := 1#32
  let v252 : BitVec 32 := Scalar.shrsi v2 c1_i32_206
  let c1_i32_207 : BitVec 32 := 1#32
  let v253 : BitVec 32 := Scalar.andi v252 c1_i32_207
  let c32_i32_208 : BitVec 32 := 32#32
  let v254 : BitVec 32 := Scalar.muli v253 c32_i32_208
  let v255 : BitVec 32 := Scalar.addi v155 v254
  let v312 : Index := Scalar.indexCast v255
  let c0_262 : Index := 0#32
  ![v312.toNat, 0]
def k0_off17 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_101 : BitVec 32 := 1#32
  let v119 : BitVec 32 := Scalar.shrsi v2 c1_i32_101
  let c1_i32_102 : BitVec 32 := 1#32
  let v120 : BitVec 32 := Scalar.andi v119 c1_i32_102
  let c64_i32 : BitVec 32 := 64#32
  let v121 : BitVec 32 := Scalar.muli v120 c64_i32
  let v122 : BitVec 32 := Scalar.addi v22 v121
  let c1_i32_183 : BitVec 32 := 1#32
  let v219 : BitVec 32 := Scalar.shrsi v2 c1_i32_183
  let v220 : BitVec 32 := Scalar.xori v2 v219
  let c1_i32_184 : BitVec 32 := 1#32
  let v221 : BitVec 32 := Scalar.andi v220 c1_i32_184
  let c32_i32 : BitVec 32 := 32#32
  let v222 : BitVec 32 := Scalar.muli v221 c32_i32
  let v223 : BitVec 32 := Scalar.addi v122 v222
  let c0_i32_272 : BitVec 32 := 0#32
  ![v223.toNat, 0]
def k0_dev13 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_267 : BitVec 32 := 1#32
  let v322 : BitVec 32 := Scalar.xori v2 c1_i32_267
  let c1_i32_270 : BitVec 32 := 1#32
  let v323 : BitVec 32 := Scalar.muli v322 c1_i32_270
  let v324 : BitVec 32 := Scalar.addi c0_i32_271 v323
  v324.toNat
def k0_off18 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let c64_i32_115 : BitVec 32 := 64#32
  let v138 : BitVec 32 := Scalar.muli v137 c64_i32_115
  let v139 : BitVec 32 := Scalar.addi v38 v138
  let c2_i32_194 : BitVec 32 := 2#32
  let v236 : BitVec 32 := Scalar.shrsi v2 c2_i32_194
  let c1_i32_195 : BitVec 32 := 1#32
  let v237 : BitVec 32 := Scalar.andi v236 c1_i32_195
  let c32_i32_196 : BitVec 32 := 32#32
  let v238 : BitVec 32 := Scalar.muli v237 c32_i32_196
  let v239 : BitVec 32 := Scalar.addi v139 v238
  let c0_i32_281 : BitVec 32 := 0#32
  ![v239.toNat, 0]
def k0_dev14 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_277 : BitVec 32 := 4#32
  let v335 : BitVec 32 := Scalar.xori v2 c4_i32_277
  let c1_i32_279 : BitVec 32 := 1#32
  let v336 : BitVec 32 := Scalar.muli v335 c1_i32_279
  let v337 : BitVec 32 := Scalar.addi c0_i32_280 v336
  v337.toNat
def k0_off19 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c2_i32_124 : BitVec 32 := 2#32
  let v152 : BitVec 32 := Scalar.shrsi v2 c2_i32_124
  let c1_i32_125 : BitVec 32 := 1#32
  let v153 : BitVec 32 := Scalar.andi v152 c1_i32_125
  let c64_i32_126 : BitVec 32 := 64#32
  let v154 : BitVec 32 := Scalar.muli v153 c64_i32_126
  let v155 : BitVec 32 := Scalar.addi v55 v154
  let c1_i32_206 : BitVec 32 := 1#32
  let v252 : BitVec 32 := Scalar.shrsi v2 c1_i32_206
  let c1_i32_207 : BitVec 32 := 1#32
  let v253 : BitVec 32 := Scalar.andi v252 c1_i32_207
  let c32_i32_208 : BitVec 32 := 32#32
  let v254 : BitVec 32 := Scalar.muli v253 c32_i32_208
  let v255 : BitVec 32 := Scalar.addi v155 v254
  let c0_i32_290 : BitVec 32 := 0#32
  ![v255.toNat, 0]
def k0_dev15 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_286 : BitVec 32 := 3#32
  let v348 : BitVec 32 := Scalar.xori v2 c3_i32_286
  let c1_i32_288 : BitVec 32 := 1#32
  let v349 : BitVec 32 := Scalar.muli v348 c1_i32_288
  let v350 : BitVec 32 := Scalar.addi c0_i32_289 v349
  v350.toNat
def k0_off20 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_101 : BitVec 32 := 1#32
  let v119 : BitVec 32 := Scalar.shrsi v2 c1_i32_101
  let c1_i32_102 : BitVec 32 := 1#32
  let v120 : BitVec 32 := Scalar.andi v119 c1_i32_102
  let c64_i32 : BitVec 32 := 64#32
  let v121 : BitVec 32 := Scalar.muli v120 c64_i32
  let v122 : BitVec 32 := Scalar.addi v22 v121
  let c1_i32_183 : BitVec 32 := 1#32
  let v219 : BitVec 32 := Scalar.shrsi v2 c1_i32_183
  let v220 : BitVec 32 := Scalar.xori v2 v219
  let c1_i32_184 : BitVec 32 := 1#32
  let v221 : BitVec 32 := Scalar.andi v220 c1_i32_184
  let c32_i32 : BitVec 32 := 32#32
  let v222 : BitVec 32 := Scalar.muli v221 c32_i32
  let v223 : BitVec 32 := Scalar.addi v122 v222
  let c1_i32_265 : BitVec 32 := 1#32
  let v319 : BitVec 32 := Scalar.shrsi v2 c1_i32_265
  let v320 : BitVec 32 := Scalar.xori v2 v319
  let c1_i32_266 : BitVec 32 := 1#32
  let v321 : BitVec 32 := Scalar.andi v320 c1_i32_266
  let c32_i32_274 : BitVec 32 := 32#32
  let v331 : BitVec 32 := Scalar.muli v321 c32_i32_274
  let v332 : BitVec 32 := Scalar.subi v223 v331
  let c0_i32_333 : BitVec 32 := 0#32
  ![v332.toNat, 0]
def k0_dev16 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_328 : BitVec 32 := 3#32
  let v391 : BitVec 32 := Scalar.xori v2 c3_i32_328
  let c1_i32_331 : BitVec 32 := 1#32
  let v392 : BitVec 32 := Scalar.muli v391 c1_i32_331
  let v393 : BitVec 32 := Scalar.addi c0_i32_332 v392
  v393.toNat
def k0_off21 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let c64_i32_115 : BitVec 32 := 64#32
  let v138 : BitVec 32 := Scalar.muli v137 c64_i32_115
  let v139 : BitVec 32 := Scalar.addi v38 v138
  let c2_i32_194 : BitVec 32 := 2#32
  let v236 : BitVec 32 := Scalar.shrsi v2 c2_i32_194
  let c1_i32_195 : BitVec 32 := 1#32
  let v237 : BitVec 32 := Scalar.andi v236 c1_i32_195
  let c32_i32_196 : BitVec 32 := 32#32
  let v238 : BitVec 32 := Scalar.muli v237 c32_i32_196
  let v239 : BitVec 32 := Scalar.addi v139 v238
  let c2_i32_275 : BitVec 32 := 2#32
  let v333 : BitVec 32 := Scalar.shrsi v2 c2_i32_275
  let c1_i32_276 : BitVec 32 := 1#32
  let v334 : BitVec 32 := Scalar.andi v333 c1_i32_276
  let c32_i32_283 : BitVec 32 := 32#32
  let v344 : BitVec 32 := Scalar.muli v334 c32_i32_283
  let v345 : BitVec 32 := Scalar.subi v239 v344
  let c0_i32_342 : BitVec 32 := 0#32
  ![v345.toNat, 0]
def k0_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_338 : BitVec 32 := 1#32
  let v405 : BitVec 32 := Scalar.xori v2 c1_i32_338
  let c1_i32_340 : BitVec 32 := 1#32
  let v406 : BitVec 32 := Scalar.muli v405 c1_i32_340
  let v407 : BitVec 32 := Scalar.addi c0_i32_341 v406
  v407.toNat
def k0_off22 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c2_i32_124 : BitVec 32 := 2#32
  let v152 : BitVec 32 := Scalar.shrsi v2 c2_i32_124
  let c1_i32_125 : BitVec 32 := 1#32
  let v153 : BitVec 32 := Scalar.andi v152 c1_i32_125
  let c64_i32_126 : BitVec 32 := 64#32
  let v154 : BitVec 32 := Scalar.muli v153 c64_i32_126
  let v155 : BitVec 32 := Scalar.addi v55 v154
  let c1_i32_206 : BitVec 32 := 1#32
  let v252 : BitVec 32 := Scalar.shrsi v2 c1_i32_206
  let c1_i32_207 : BitVec 32 := 1#32
  let v253 : BitVec 32 := Scalar.andi v252 c1_i32_207
  let c32_i32_208 : BitVec 32 := 32#32
  let v254 : BitVec 32 := Scalar.muli v253 c32_i32_208
  let v255 : BitVec 32 := Scalar.addi v155 v254
  let c1_i32_284 : BitVec 32 := 1#32
  let v346 : BitVec 32 := Scalar.shrsi v2 c1_i32_284
  let c1_i32_285 : BitVec 32 := 1#32
  let v347 : BitVec 32 := Scalar.andi v346 c1_i32_285
  let c32_i32_292 : BitVec 32 := 32#32
  let v357 : BitVec 32 := Scalar.muli v347 c32_i32_292
  let v358 : BitVec 32 := Scalar.subi v255 v357
  let c0_i32_351 : BitVec 32 := 0#32
  ![v358.toNat, 0]
def k0_dev18 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_347 : BitVec 32 := 4#32
  let v418 : BitVec 32 := Scalar.xori v2 c4_i32_347
  let c1_i32_349 : BitVec 32 := 1#32
  let v419 : BitVec 32 := Scalar.muli v418 c1_i32_349
  let v420 : BitVec 32 := Scalar.addi c0_i32_350 v419
  v420.toNat
def k0_off23 (d0 : Dev nD) : Fin 2 → Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.shrsi v2 c2_i32
  let c1_i32_15 : BitVec 32 := 1#32
  let v20 : BitVec 32 := Scalar.andi v19 c1_i32_15
  let c128_i32 : BitVec 32 := 128#32
  let v21 : BitVec 32 := Scalar.muli v20 c128_i32
  let v22 : BitVec 32 := Scalar.addi c0_i32_16 v21
  let c1_i32_101 : BitVec 32 := 1#32
  let v119 : BitVec 32 := Scalar.shrsi v2 c1_i32_101
  let c1_i32_102 : BitVec 32 := 1#32
  let v120 : BitVec 32 := Scalar.andi v119 c1_i32_102
  let c64_i32 : BitVec 32 := 64#32
  let v121 : BitVec 32 := Scalar.muli v120 c64_i32
  let v122 : BitVec 32 := Scalar.addi v22 v121
  let c1_i32_183 : BitVec 32 := 1#32
  let v219 : BitVec 32 := Scalar.shrsi v2 c1_i32_183
  let v220 : BitVec 32 := Scalar.xori v2 v219
  let c1_i32_184 : BitVec 32 := 1#32
  let v221 : BitVec 32 := Scalar.andi v220 c1_i32_184
  let c32_i32 : BitVec 32 := 32#32
  let v222 : BitVec 32 := Scalar.muli v221 c32_i32
  let v223 : BitVec 32 := Scalar.addi v122 v222
  let c1_i32_265 : BitVec 32 := 1#32
  let v319 : BitVec 32 := Scalar.shrsi v2 c1_i32_265
  let v320 : BitVec 32 := Scalar.xori v2 v319
  let c1_i32_266 : BitVec 32 := 1#32
  let v321 : BitVec 32 := Scalar.andi v320 c1_i32_266
  let c32_i32_274 : BitVec 32 := 32#32
  let v331 : BitVec 32 := Scalar.muli v321 c32_i32_274
  let v332 : BitVec 32 := Scalar.subi v223 v331
  let c1_i32_326 : BitVec 32 := 1#32
  let v389 : BitVec 32 := Scalar.shrsi v2 c1_i32_326
  let c1_i32_327 : BitVec 32 := 1#32
  let v390 : BitVec 32 := Scalar.andi v389 c1_i32_327
  let c64_i32_335 : BitVec 32 := 64#32
  let v400 : BitVec 32 := Scalar.muli v390 c64_i32_335
  let v401 : BitVec 32 := Scalar.subi v332 v400
  let c0_i32_391 : BitVec 32 := 0#32
  ![v401.toNat, 0]
def k0_dev19 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_387 : BitVec 32 := 4#32
  let v459 : BitVec 32 := Scalar.xori v2 c4_i32_387
  let c1_i32_389 : BitVec 32 := 1#32
  let v460 : BitVec 32 := Scalar.muli v459 c1_i32_389
  let v461 : BitVec 32 := Scalar.addi c0_i32_390 v460
  v461.toNat
def k0_off24 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v35 : BitVec 32 := Scalar.shrsi v2 c1_i32_28
  let c1_i32_29 : BitVec 32 := 1#32
  let v36 : BitVec 32 := Scalar.andi v35 c1_i32_29
  let c128_i32_30 : BitVec 32 := 128#32
  let v37 : BitVec 32 := Scalar.muli v36 c128_i32_30
  let v38 : BitVec 32 := Scalar.addi c256_i32 v37
  let c1_i32_113 : BitVec 32 := 1#32
  let v135 : BitVec 32 := Scalar.shrsi v2 c1_i32_113
  let v136 : BitVec 32 := Scalar.xori v2 v135
  let c1_i32_114 : BitVec 32 := 1#32
  let v137 : BitVec 32 := Scalar.andi v136 c1_i32_114
  let c64_i32_115 : BitVec 32 := 64#32
  let v138 : BitVec 32 := Scalar.muli v137 c64_i32_115
  let v139 : BitVec 32 := Scalar.addi v38 v138
  let c2_i32_194 : BitVec 32 := 2#32
  let v236 : BitVec 32 := Scalar.shrsi v2 c2_i32_194
  let c1_i32_195 : BitVec 32 := 1#32
  let v237 : BitVec 32 := Scalar.andi v236 c1_i32_195
  let c32_i32_196 : BitVec 32 := 32#32
  let v238 : BitVec 32 := Scalar.muli v237 c32_i32_196
  let v239 : BitVec 32 := Scalar.addi v139 v238
  let c2_i32_275 : BitVec 32 := 2#32
  let v333 : BitVec 32 := Scalar.shrsi v2 c2_i32_275
  let c1_i32_276 : BitVec 32 := 1#32
  let v334 : BitVec 32 := Scalar.andi v333 c1_i32_276
  let c32_i32_283 : BitVec 32 := 32#32
  let v344 : BitVec 32 := Scalar.muli v334 c32_i32_283
  let v345 : BitVec 32 := Scalar.subi v239 v344
  let c1_i32_336 : BitVec 32 := 1#32
  let v402 : BitVec 32 := Scalar.shrsi v2 c1_i32_336
  let v403 : BitVec 32 := Scalar.xori v2 v402
  let c1_i32_337 : BitVec 32 := 1#32
  let v404 : BitVec 32 := Scalar.andi v403 c1_i32_337
  let c64_i32_344 : BitVec 32 := 64#32
  let v414 : BitVec 32 := Scalar.muli v404 c64_i32_344
  let v415 : BitVec 32 := Scalar.subi v345 v414
  let c0_i32_397 : BitVec 32 := 0#32
  ![v415.toNat, 0]
def k0_dev20 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_393 : BitVec 32 := 3#32
  let v468 : BitVec 32 := Scalar.xori v2 c3_i32_393
  let c1_i32_395 : BitVec 32 := 1#32
  let v469 : BitVec 32 := Scalar.muli v468 c1_i32_395
  let v470 : BitVec 32 := Scalar.addi c0_i32_396 v469
  v470.toNat
def k0_off25 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v51 : BitVec 32 := Scalar.shrsi v2 c1_i32_40
  let v52 : BitVec 32 := Scalar.xori v2 v51
  let c1_i32_41 : BitVec 32 := 1#32
  let v53 : BitVec 32 := Scalar.andi v52 c1_i32_41
  let c128_i32_42 : BitVec 32 := 128#32
  let v54 : BitVec 32 := Scalar.muli v53 c128_i32_42
  let v55 : BitVec 32 := Scalar.addi c512_i32 v54
  let c2_i32_124 : BitVec 32 := 2#32
  let v152 : BitVec 32 := Scalar.shrsi v2 c2_i32_124
  let c1_i32_125 : BitVec 32 := 1#32
  let v153 : BitVec 32 := Scalar.andi v152 c1_i32_125
  let c64_i32_126 : BitVec 32 := 64#32
  let v154 : BitVec 32 := Scalar.muli v153 c64_i32_126
  let v155 : BitVec 32 := Scalar.addi v55 v154
  let c1_i32_206 : BitVec 32 := 1#32
  let v252 : BitVec 32 := Scalar.shrsi v2 c1_i32_206
  let c1_i32_207 : BitVec 32 := 1#32
  let v253 : BitVec 32 := Scalar.andi v252 c1_i32_207
  let c32_i32_208 : BitVec 32 := 32#32
  let v254 : BitVec 32 := Scalar.muli v253 c32_i32_208
  let v255 : BitVec 32 := Scalar.addi v155 v254
  let c1_i32_284 : BitVec 32 := 1#32
  let v346 : BitVec 32 := Scalar.shrsi v2 c1_i32_284
  let c1_i32_285 : BitVec 32 := 1#32
  let v347 : BitVec 32 := Scalar.andi v346 c1_i32_285
  let c32_i32_292 : BitVec 32 := 32#32
  let v357 : BitVec 32 := Scalar.muli v347 c32_i32_292
  let v358 : BitVec 32 := Scalar.subi v255 v357
  let c2_i32_345 : BitVec 32 := 2#32
  let v416 : BitVec 32 := Scalar.shrsi v2 c2_i32_345
  let c1_i32_346 : BitVec 32 := 1#32
  let v417 : BitVec 32 := Scalar.andi v416 c1_i32_346
  let c64_i32_353 : BitVec 32 := 64#32
  let v427 : BitVec 32 := Scalar.muli v417 c64_i32_353
  let v428 : BitVec 32 := Scalar.subi v358 v427
  let c0_i32_403 : BitVec 32 := 0#32
  ![v428.toNat, 0]
def k0_dev21 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_399 : BitVec 32 := 1#32
  let v477 : BitVec 32 := Scalar.xori v2 c1_i32_399
  let c1_i32_401 : BitVec 32 := 1#32
  let v478 : BitVec 32 := Scalar.muli v477 c1_i32_401
  let v479 : BitVec 32 := Scalar.addi c0_i32_402 v478
  v479.toNat
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x3072 : Shape := ⟨2, ![768, 3072]⟩
abbrev S3072x768 : Shape := ⟨2, ![3072, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x3072, .f32⟩
  | .hbm, ⟨1, _⟩ => ⟨S3072x768, .f32⟩
  | .hbm, ⟨2, _⟩ => ⟨S768x768, .f32⟩
  | _, _ => ⟨S768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cube.lean ====
/-
  The hypercube the exchange walks, apart from any program: eight devices, three groups of 256 rows, and in each group
  three exchanges, each along one of the axes "flip by 4", "flip by 3", "flip by 1" of the device number. At depth `l`
  a device is responsible for the `256 / 2^l` rows of the group that start at `base g l c`; at depth 3 the eight
  devices are responsible for eight disjoint bands of 32 rows, and together for the whole group.
-/
module

public import Idealize.ShloMosaic.PureOps
public import Mathlib.Tactic.Abel
public import Mathlib.Tactic.FinCases
public import Mathlib.Algebra.BigOperators.Fin

@[expose] public section

namespace Cert.Cube

/-- The axis group `g` exchanges along at depth `l`: the three groups use the three axes in rotated order. -/
def ax (g : Fin 3) (l : ℕ) : Fin 3 := ⟨(l + g.val) % 3, Nat.mod_lt _ (by decide)⟩

/-- The partner of a device along an axis. -/
def flip (j : Fin 3) (c : Fin 8) : Fin 8 := match j with
  | 0 => c ^^^ 4
  | 1 => c ^^^ 3
  | 2 => c ^^^ 1

/-- Which of the two halves a device keeps along an axis: `flip` along an axis changes this bit and neither of the other two. -/
def bit (j : Fin 3) (c : Fin 8) : ℕ := match j with
  | 0 => c.val / 4
  | 1 => c.val / 2 % 2
  | 2 => (c.val + c.val / 2) % 2

/-- Group `g`'s partner of device `c` at depth `l`. -/
def pr (g : Fin 3) (l : ℕ) (c : Fin 8) : Fin 8 := flip (ax g l) c

/-- The first row device `c` is responsible for in group `g` at depth `l`, -/
def base (g : Fin 3) : ℕ → Fin 8 → ℕ
  | 0, _ => 256 * g.val
  | l + 1, c => base g l c + bit (ax g l) c * (128 / 2 ^ l)

/-- and how many. -/
def len (l : ℕ) : ℕ := 256 / 2 ^ l

theorem flip_flip (j : Fin 3) (c : Fin 8) : flip j (flip j c) = c := by revert j c; decide
theorem pr_pr (g : Fin 3) (l : ℕ) (c : Fin 8) : pr g l (pr g l c) = c := flip_flip _ c

/-- Flipping along an axis, as a permutation of the devices. -/
def flipE (j : Fin 3) : Fin 8 ≃ Fin 8 := ⟨flip j, flip j, flip_flip j, flip_flip j⟩

/-- A device and its partner are responsible for the same rows before they exchange, -/
theorem base_pr (g : Fin 3) (l : Fin 3) (c : Fin 8) : base g l (pr g l c) = base g l c := by
  revert g l c; decide +kernel

/-- and for the two halves of those rows afterwards. -/
theorem halves (g : Fin 3) (l : Fin 3) (c : Fin 8) :
    (base g (l + 1) c = base g l c ∧ base g (l + 1) (pr g l c) = base g l c + len (l + 1))
    ∨ (base g (l + 1) (pr g l c) = base g l c ∧ base g (l + 1) c = base g l c + len (l + 1)) := by
  revert g l c; decide +kernel

theorem len_half (l : Fin 3) : len l = len (l + 1) + len (l + 1) := by revert l; decide

/-- The rows stay inside the array. -/
theorem base_le (g : Fin 3) (l : Fin 4) (c : Fin 8) : base g l c + len l ≤ 768 := by
  revert g l c; decide +kernel

/-- The group a row belongs to. -/
def grp (r : ℕ) : Fin 3 := ⟨r / 256 % 3, Nat.mod_lt _ (by decide)⟩

/-- The device responsible for a row at depth 3: the one keeping the halves the row's position in its group names. -/
def own (r : ℕ) : Fin 8 :=
  ((List.finRange 8).find? fun c => decide (base (grp r) 3 c ≤ r ∧ r < base (grp r) 3 c + 32)).getD 0

theorem own_eq (g : Fin 3) (c : Fin 8) (x : Fin 32) : grp (base g 3 c + x) = g ∧ own (base g 3 c + x) = c := by
  revert g c x; decide +kernel

theorem own_of_mem {g : Fin 3} {c : Fin 8} {r : ℕ} (h : base g 3 c ≤ r) (h' : r < base g 3 c + len 3) : grp r = g ∧ own r = c := by
  have h32 : len 3 = 32 := by decide
  have := own_eq g c ⟨r - base g 3 c, by omega⟩
  rwa [show base g 3 c + (⟨r - base g 3 c, by omega⟩ : Fin 32).val = r by show _ + (r - _) = r; omega] at this

/-! ## What the exchanges accumulate -/

variable {α ι : Type} (add : α → α → α) (D : Fin 8 → ι → α)

/-- Device `c`'s array after `l` exchanges of group `g`, where every device starts from its own `D`: at the rows it is
    responsible for, its own partial sum plus its partner's. -/
def acc (g : Fin 3) : ℕ → Fin 8 → ι → α
  | 0, c => D c
  | l + 1, c => fun i => add (acc g l c i) (acc g l (pr g l c) i)

/-- Where the addition is a commutative sum, three exchanges reach all eight devices. -/
theorem acc_three {β : Type} [AddCommMonoid β] (D : Fin 8 → ι → β) (g : Fin 3) (c : Fin 8) (i : ι) :
    acc (· + ·) D g 3 c i = ∑ d, D d i := by
  have h : ∀ (g : Fin 3) (c : Fin 8),
      ({c, pr g 0 c, pr g 1 c, pr g 0 (pr g 1 c), pr g 2 c, pr g 0 (pr g 2 c), pr g 1 (pr g 2 c), pr g 0 (pr g 1 (pr g 2 c))} : Multiset (Fin 8))
        = Finset.univ.val := by decide +kernel
  show _ = (Finset.univ.val.map fun d => D d i).sum
  rw [← h g c]
  simp only [acc, Multiset.insert_eq_cons, Multiset.map_cons, Multiset.map_singleton, Multiset.sum_cons, Multiset.sum_singleton]
  abel

end Cert.Cube
-- ==== Proof.Cells.lean ====
/-
  The kernel's buffers, semaphores, row bands and index computations, named in the vocabulary of `Cube`: what a copy
  reads and writes, where it goes, and what the generated offset and device computations come to.
-/
module

public import proofs.«01_k».proof.Proof.Cube
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Exchange

open Cert.KernelIdeal Cert.KernelIdeal.Gen Cert.Cube
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The eighteen copies of a device: group `g`, step `s`; steps 0, 1, 2 reduce, steps 3, 4, 5 gather -/

/-- The depth of the axis a step exchanges along, -/
def dep (s : Fin 6) : ℕ := if s.val < 3 then s.val else 5 - s.val
/-- and the depth of the band it moves. -/
def lev (s : Fin 6) : ℕ := dep s + 1
/-- The device a copy goes to (and the one the same step's copy comes from). -/
def peer (g : Fin 3) (s : Fin 6) (c : Fin 8) : Fin 8 := pr g (dep s) c
/-- The first row a copy takes from the array: reducing, the half the partner keeps; gathering, the device's own band. -/
def src (g : Fin 3) (s : Fin 6) (c : Fin 8) : ℕ := if s.val < 3 then base g (lev s) (peer g s c) else base g (lev s) c
/-- Where in the landing buffer a reducing step's rows arrive. -/
def slot (g : Fin 3) (s : Fin 6) : ℕ := 224 * g.val + (if s.val = 0 then 0 else if s.val = 1 then 128 else 192)

theorem peer_peer (g : Fin 3) (s : Fin 6) (c : Fin 8) : peer g s (peer g s c) = c := pr_pr g _ c

/-- The semaphore number of a copy, counted from its array's first. -/
def num (g : Fin 3) (s : Fin 6) : Fin 18 := ⟨6 * g.val + s.val, by omega⟩

/-! ## Buffers and semaphores -/

abbrev oM : Memref sig .tc .vmem S768x768 .f32 := Memref.whole cc0_stg2_0
abbrev rM : Memref sig .tc .vmem S672x768 .f32 := Memref.whole cc0_scratch0

abbrev barS : Sem sig := (SemArray.scalar (sig.barrier 0 rfl) : Sems sig S_).sem
def sendS (g : Fin 3) (s : Fin 6) : DmaSem sig := ⟨3 + (num g s).val, by have := (num g s).isLt; show _ < 39; omega⟩
def recvS (g : Fin 3) (s : Fin 6) : DmaSem sig := ⟨21 + (num g s).val, by have := (num g s).isLt; show _ < 39; omega⟩

/-- A band of `n` rows, whole rows of 768. -/
abbrev Sn (n : ℕ) : Shape := ⟨2, ![n, 768]⟩

/-- The credit of a copy of `n` rows. -/
def cr (n : ℕ) : ℕ := sig.dmaCredit .tc (Kind.tc.table .vmem) oM.view.buf (Sn n) .f32

theorem cr_pos {n : ℕ} (h : 0 < n) : 0 < cr n :=
  sig.dmaCredit_pos _ _ _ _ _ (Shape.numel_pos fun a => by match a with | 0 => exact h | 1 => exact (by decide : 0 < 768))

/-! ## The generated device and offset computations -/

theorem dev1 (c : Dev nD) : (⟨k0_dev1 c, k0_dev1_lt c⟩ : Dev nD) = flip 0 c := by revert c; decide +kernel
theorem dev2 (c : Dev nD) : (⟨k0_dev2 c, k0_dev2_lt c⟩ : Dev nD) = flip 1 c := by revert c; decide +kernel
theorem dev3 (c : Dev nD) : (⟨k0_dev3 c, k0_dev3_lt c⟩ : Dev nD) = flip 2 c := by revert c; decide +kernel
theorem dev4 (c : Dev nD) : (⟨k0_dev4 c, k0_dev4_lt c⟩ : Dev nD) = peer 0 0 c := by revert c; decide +kernel
theorem dev5 (c : Dev nD) : (⟨k0_dev5 c, k0_dev5_lt c⟩ : Dev nD) = peer 1 0 c := by revert c; decide +kernel
theorem dev6 (c : Dev nD) : (⟨k0_dev6 c, k0_dev6_lt c⟩ : Dev nD) = peer 2 0 c := by revert c; decide +kernel
theorem dev7 (c : Dev nD) : (⟨k0_dev7 c, k0_dev7_lt c⟩ : Dev nD) = peer 0 1 c := by revert c; decide +kernel
theorem dev8 (c : Dev nD) : (⟨k0_dev8 c, k0_dev8_lt c⟩ : Dev nD) = peer 1 1 c := by revert c; decide +kernel
theorem dev9 (c : Dev nD) : (⟨k0_dev9 c, k0_dev9_lt c⟩ : Dev nD) = peer 2 1 c := by revert c; decide +kernel
theorem dev10 (c : Dev nD) : (⟨k0_dev10 c, k0_dev10_lt c⟩ : Dev nD) = peer 0 2 c := by revert c; decide +kernel
theorem dev11 (c : Dev nD) : (⟨k0_dev11 c, k0_dev11_lt c⟩ : Dev nD) = peer 1 2 c := by revert c; decide +kernel
theorem dev12 (c : Dev nD) : (⟨k0_dev12 c, k0_dev12_lt c⟩ : Dev nD) = peer 2 2 c := by revert c; decide +kernel
theorem dev13 (c : Dev nD) : (⟨k0_dev13 c, k0_dev13_lt c⟩ : Dev nD) = peer 0 3 c := by revert c; decide +kernel
theorem dev14 (c : Dev nD) : (⟨k0_dev14 c, k0_dev14_lt c⟩ : Dev nD) = peer 1 3 c := by revert c; decide +kernel
theorem dev15 (c : Dev nD) : (⟨k0_dev15 c, k0_dev15_lt c⟩ : Dev nD) = peer 2 3 c := by revert c; decide +kernel
theorem dev16 (c : Dev nD) : (⟨k0_dev16 c, k0_dev16_lt c⟩ : Dev nD) = peer 0 4 c := by revert c; decide +kernel
theorem dev17 (c : Dev nD) : (⟨k0_dev17 c, k0_dev17_lt c⟩ : Dev nD) = peer 1 4 c := by revert c; decide +kernel
theorem dev18 (c : Dev nD) : (⟨k0_dev18 c, k0_dev18_lt c⟩ : Dev nD) = peer 2 4 c := by revert c; decide +kernel
theorem dev19 (c : Dev nD) : (⟨k0_dev19 c, k0_dev19_lt c⟩ : Dev nD) = peer 0 5 c := by revert c; decide +kernel
theorem dev20 (c : Dev nD) : (⟨k0_dev20 c, k0_dev20_lt c⟩ : Dev nD) = peer 1 5 c := by revert c; decide +kernel
theorem dev21 (c : Dev nD) : (⟨k0_dev21 c, k0_dev21_lt c⟩ : Dev nD) = peer 2 5 c := by revert c; decide +kernel

/-- The offset of a band of whole rows. -/
abbrev at0 (o : ℕ) : Fin 2 → ℕ := ![o, 0]

theorem off1 (c : Dev nD) : k0_off1 c 0#32 2#32 = at0 (src 0 0 c) := by revert c; decide +kernel
theorem off1_b (c : Dev nD) : k0_off1 c 256#32 1#32 = at0 (src 1 0 c) := by revert c; decide +kernel
theorem off2 (c : Dev nD) : k0_off2 c = at0 (src 2 0 c) := by revert c; decide +kernel
theorem off3 (c : Dev nD) : k0_off3 c 0#32 2#32 = at0 (base 0 1 c) := by revert c; decide +kernel
theorem off3_b (c : Dev nD) : k0_off3 c 256#32 1#32 = at0 (base 1 1 c) := by revert c; decide +kernel
theorem off4 (c : Dev nD) : k0_off4 c = at0 (base 2 1 c) := by revert c; decide +kernel
theorem off5 (c : Dev nD) : k0_off5 c = at0 (src 0 1 c) := by revert c; decide +kernel
theorem off6 (c : Dev nD) : k0_off6 c = at0 (src 1 1 c) := by revert c; decide +kernel
theorem off7 (c : Dev nD) : k0_off7 c = at0 (src 2 1 c) := by revert c; decide +kernel
theorem off8 (c : Dev nD) : k0_off8 c = at0 (base 0 2 c) := by revert c; decide +kernel
theorem off9 (c : Dev nD) : k0_off9 c = at0 (base 1 2 c) := by revert c; decide +kernel
theorem off10 (c : Dev nD) : k0_off10 c = at0 (base 2 2 c) := by revert c; decide +kernel
theorem off11 (c : Dev nD) : k0_off11 c = at0 (src 0 2 c) := by revert c; decide +kernel
theorem off12 (c : Dev nD) : k0_off12 c = at0 (src 1 2 c) := by revert c; decide +kernel
theorem off13 (c : Dev nD) : k0_off13 c = at0 (src 2 2 c) := by revert c; decide +kernel
theorem off14 (c : Dev nD) : k0_off14 c = at0 (base 0 3 c) := by revert c; decide +kernel
theorem off15 (c : Dev nD) : k0_off15 c = at0 (base 1 3 c) := by revert c; decide +kernel
theorem off16 (c : Dev nD) : k0_off16 c = at0 (base 2 3 c) := by revert c; decide +kernel
theorem off17 (c : Dev nD) : k0_off17 c = at0 (src 0 3 c) := by revert c; decide +kernel
theorem off18 (c : Dev nD) : k0_off18 c = at0 (src 1 3 c) := by revert c; decide +kernel
theorem off19 (c : Dev nD) : k0_off19 c = at0 (src 2 3 c) := by revert c; decide +kernel
theorem off20 (c : Dev nD) : k0_off20 c = at0 (src 0 4 c) := by revert c; decide +kernel
theorem off21 (c : Dev nD) : k0_off21 c = at0 (src 1 4 c) := by revert c; decide +kernel
theorem off22 (c : Dev nD) : k0_off22 c = at0 (src 2 4 c) := by revert c; decide +kernel
theorem off23 (c : Dev nD) : k0_off23 c = at0 (src 0 5 c) := by revert c; decide +kernel
theorem off24 (c : Dev nD) : k0_off24 c = at0 (src 1 5 c) := by revert c; decide +kernel
theorem off25 (c : Dev nD) : k0_off25 c = at0 (src 2 5 c) := by revert c; decide +kernel

end Cert.Exchange
-- ==== Proof.Bands.lean ====
/-
  Bands of whole rows of the two arrays the kernel exchanges: owning one, splitting and joining bands, and what a copy,
  a load or a store of one comes to on contents.
-/
module

public import proofs.«01_k».proof.Proof.Cells

@[expose] public section

noncomputable section

namespace Cert.Exchange

open Cert.KernelIdeal Cert.KernelIdeal.Gen Cert.Cube
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's duties: a barrier cell has one per axis, every other cell only `0`. -/
abbrev UB : Type := URounds (GSem nD τ sig) (Fin 3)
/-- The resource algebra: the pipeline library's copy and the exchange's. -/
abbrev UU : Type := UR sig nD τ × UB

local notation "𝕄" => MT nD τ sig Unit (Elt F) ℕ UU ℕ

/-! ## Bands -/

/-- The indices of an array of `R` rows whose row lies in the band of `n` rows from `o`. -/
def rows (R o n : ℕ) : Finset (Sn R).Idx := Finset.univ.filter fun i => o ≤ (i 0).val ∧ (i 0).val < o + n

theorem mem_rows {R o n : ℕ} {i : (Sn R).Idx} : i ∈ rows R o n ↔ o ≤ (i 0).val ∧ (i 0).val < o + n := by simp [rows]

theorem rows_all (R : ℕ) : rows R 0 R = Finset.univ := by
  ext i; rw [mem_rows]; have : (i 0).val < R := (i 0).isLt; simp; omega

theorem rows_append (R o a b : ℕ) : rows R o (a + b) = rows R o a ∪ rows R (o + a) b := by
  ext i; rw [Finset.mem_union]; simp only [mem_rows]; omega

theorem rows_disjoint (R o a b : ℕ) : Disjoint (rows R o a) (rows R (o + a) b) :=
  Finset.disjoint_left.mpr fun i h h' => by rw [mem_rows] at h h'; omega

/-- The rectangle of a band. -/
theorem rect_rows (R o n : ℕ) (inb) : (Rect.unit (s := Sn R) (at0 o) (Sn n).size inb).set = rows R o n := by
  ext i; rw [Rect.mem_set_unit, mem_rows]
  constructor
  · intro h; exact h 0
  · intro h a
    match a with
    | 0 => exact h
    | 1 => exact ⟨Nat.zero_le _, by have : (i 1).val < 768 := (i 1).isLt; show (i 1).val < 0 + 768; omega⟩

/-- A device's ownership of a band of its result array, and of its landing buffer. -/
def outP (c : Dev nD) (o n : ℕ) (f : S768x768.Idx → Elt F .f32) : sProp 𝕄 := ((c : Thread nD τ).loc cc0_stg2_0) ↦[rows 768 o n]{fullShare} f
def scrP (c : Dev nD) (o n : ℕ) (f : S672x768.Idx → Elt F .f32) : sProp 𝕄 := ((c : Thread nD τ).loc cc0_scratch0) ↦[rows 672 o n]{fullShare} f

instance outP_storable (c : Dev nD) (o n f) : BI.Storable (upEmb : UEmb _ 𝕄) (outP (F := F) c o n f) := by unfold outP; infer_instance
instance scrP_storable (c : Dev nD) (o n f) : BI.Storable (upEmb : UEmb _ 𝕄) (scrP (F := F) c o n f) := by unfold scrP; infer_instance

theorem outP_congr (c : Dev nD) (o n : ℕ) {f g : S768x768.Idx → Elt F .f32} (h : ∀ i ∈ rows 768 o n, f i = g i) : outP c o n f = outP c o n g :=
  pointsTo_congr h
theorem scrP_congr (c : Dev nD) (o n : ℕ) {f g : S672x768.Idx → Elt F .f32} (h : ∀ i ∈ rows 672 o n, f i = g i) : scrP c o n f = scrP c o n g :=
  pointsTo_congr h

theorem outP_append (c : Dev nD) (o a b : ℕ) (f : S768x768.Idx → Elt F .f32) : outP c o (a + b) f ⊣⊢ iprop(outP c o a f ∗ outP c (o + a) b f) := by
  unfold outP; rw [rows_append]; exact pointsTo_union (rows_disjoint _ _ _ _)
theorem scrP_append (c : Dev nD) (o a b : ℕ) (f : S672x768.Idx → Elt F .f32) : scrP c o (a + b) f ⊣⊢ iprop(scrP c o a f ∗ scrP c (o + a) b f) := by
  unfold scrP; rw [rows_append]; exact pointsTo_union (rows_disjoint _ _ _ _)

/-- Two neighbouring bands at whatever contents are one band at some contents. -/
theorem scrP_join (c : Dev nD) (o a b : ℕ) (f g : S672x768.Idx → Elt F .f32) : iprop(scrP c o a f ∗ scrP c (o + a) b g) ⊢ iprop(∃ h, scrP c o (a + b) h) := by
  iintro H
  iexists (fun i => if (i 0).val < o + a then f i else g i)
  iapply (scrP_append c o a b _).2
  rw [scrP_congr c o a (f := fun i => if (i 0).val < o + a then f i else g i) (g := f) fun i hi => by rw [mem_rows] at hi; exact if_pos hi.2,
    scrP_congr c (o + a) b (f := fun i => if (i 0).val < o + a then f i else g i) (g := g) fun i hi => by rw [mem_rows] at hi; exact if_neg (by omega)]
  iexact H

/-! ## What is at a band -/

/-- The index of an array of `R` rows that position `j` of the band from `o` names. -/
def put (R o : ℕ) {n : ℕ} (h : o + n ≤ R) (j : (Sn n).Idx) : (Sn R).Idx := fun a =>
  match a with
  | 0 => ⟨o + (j 0).val, lt_of_lt_of_le (Nat.add_lt_add_left (j 0).isLt o) h⟩
  | 1 => j 1

theorem put_of_mem {R o n : ℕ} (h : o + n ≤ R) {i : (Sn R).Idx} (hi : i ∈ rows R o n) : ∃ j : (Sn n).Idx, put R o h j = i := by
  rw [mem_rows] at hi
  refine ⟨fun a => match a with | 0 => ⟨(i 0).val - o, by show _ < n; omega⟩ | 1 => i 1, funext fun a => ?_⟩
  match a with
  | 0 => exact Fin.ext (by show o + ((i 0).val - o) = (i 0).val; omega)
  | 1 => rfl

theorem inb_le {R o n : ℕ} (inb : ∀ a, (at0 o) a + (Sn n).size a ≤ (Sn R).size a) : o + n ≤ R := inb 0

theorem rect_emb {R o n : ℕ} (inb : ∀ a, (at0 o) a + (Sn n).size a ≤ (Sn R).size a) (j : (Sn n).Idx) :
    (Rect.unit (s := Sn R) (at0 o) (Sn n).size inb).emb j = put R o (inb_le inb) j :=
  funext fun a => match a with
    | 0 => Fin.ext (by show o + 1 * (j 0).val = o + (j 0).val; omega)
    | 1 => Fin.ext (by show 0 + 1 * (j 1).val = (j 1).val; omega)

/-- A band of the result array, and of the landing buffer, as the kernel's operations view it. -/
abbrev outV (off : Fin 2 → ℕ) (n : ℕ) (inb : ∀ a, off a + (Sn n).size a ≤ S768x768.size a) : View sig .tc .vmem (Sn n) .f32 :=
  (View.whole cc0_stg2_0).slice (Rect.unit (s := S768x768) off (Sn n).size inb)
abbrev scrV (off : Fin 2 → ℕ) (n : ℕ) (inb : ∀ a, off a + (Sn n).size a ≤ S672x768.size a) : View sig .tc .vmem (Sn n) .f32 :=
  (View.whole cc0_scratch0).slice (Rect.unit (s := S672x768) off (Sn n).size inb)

section Contents
variable {o n : ℕ} {inb : ∀ a, (at0 o) a + (Sn n).size a ≤ S768x768.size a} {inb' : ∀ a, (at0 o) a + (Sn n).size a ≤ S672x768.size a}

theorem out_set : (outV (at0 o) n inb).set = rows 768 o n := (View.set_slice_whole _ _).trans (rect_rows 768 o n inb)
theorem scr_set : (scrV (at0 o) n inb').set = rows 672 o n := (View.set_slice_whole _ _).trans (rect_rows 672 o n inb')

theorem out_read (f : S768x768.Idx → Elt F .f32) (j : (Sn n).Idx) : (outV (at0 o) n inb).read (Elt F) f j = f (put 768 o (inb_le inb) j) :=
  congrArg f (rect_emb inb j)
theorem scr_read (f : S672x768.Idx → Elt F .f32) (j : (Sn n).Idx) : (scrV (at0 o) n inb').read (Elt F) f j = f (put 672 o (inb_le inb') j) :=
  congrArg f (rect_emb inb' j)

theorem out_write (f : S768x768.Idx → Elt F .f32) (w : (Sn n).Idx → Elt F .f32) (j : (Sn n).Idx) :
    (outV (at0 o) n inb).write (Elt F) f w Finset.univ (put 768 o (inb_le inb) j) = w j := by
  rw [← rect_emb inb j]; exact View.write_emb_of_mem (v := outV (at0 o) n inb) f w (Finset.mem_univ j)
theorem scr_write (f : S672x768.Idx → Elt F .f32) (w : (Sn n).Idx → Elt F .f32) (j : (Sn n).Idx) :
    (scrV (at0 o) n inb').write (Elt F) f w Finset.univ (put 672 o (inb_le inb') j) = w j := by
  rw [← rect_emb inb' j]; exact View.write_emb_of_mem (v := scrV (at0 o) n inb') f w (Finset.mem_univ j)

end Contents

/-! ## The contents the protocol speaks of, where device `c` starts from the array `D c` -/

section Values
variable (D : Dev nD → S768x768.Idx → Elt F .f32)

/-- Device `c`'s partial sums of group `g` after `l` reducing steps. -/
def part (g : Fin 3) (l : ℕ) (c : Dev nD) : S768x768.Idx → Elt F .f32 := acc (FloatOps.addf (F := F) (φ := .f32)) D g l c

/-- The result: every row, as the device responsible for it summed it. -/
def total : S768x768.Idx → Elt F .f32 := fun i => part D (grp (i 0).val) 3 (own (i 0).val) i

/-- What lands in device `c`'s slot at reducing step `s`: its partner's partial sums at the rows `c` keeps. -/
def landed (g : Fin 3) (s : Fin 6) (c : Dev nD) : S672x768.Idx → Elt F .f32 := fun i =>
  part D g (dep s) (peer g s c) fun a => match a with
    | 0 => ⟨(base g (lev s) c + ((i 0).val - slot g s)) % 768, Nat.mod_lt _ (by decide)⟩
    | 1 => i 1

theorem total_eq (g : Fin 3) (c : Dev nD) : ∀ i ∈ rows 768 (base g 3 c) (len 3), part D g 3 c i = total D i := fun i hi => by
  rw [mem_rows] at hi
  obtain ⟨h, h'⟩ := own_of_mem hi.1 hi.2
  unfold total; rw [h, h']

theorem landed_put (g : Fin 3) (s : Fin 6) (c : Dev nD) {n : ℕ} (h : slot g s + n ≤ 672) (h' : base g (lev s) c + n ≤ 768) (j : (Sn n).Idx) :
    landed D g s c (put 672 (slot g s) h j) = part D g (dep s) (peer g s c) (put 768 (base g (lev s) c) h' j) := by
  unfold landed
  congr 1
  funext a
  match a with
  | 0 =>
    have hj : (j 0).val < n := (j 0).isLt
    exact Fin.ext (by
      show (base g (lev s) c + (slot g s + (j 0).val - slot g s)) % 768 = base g (lev s) c + (j 0).val
      rw [Nat.add_sub_cancel_left, Nat.mod_eq_of_lt (by omega)])
  | 1 => rfl

end Values

end Cert.Exchange
-- ==== Proof.Sched.lean ====
/-
  The exchange's protocol: which cell pays what, in what units, and in what order a device may wait.

  Before anything moves, each device tells its three partners that their rows may land in its buffer: a unit on the
  partner's barrier cell, handing over the three slots that partner writes. A reducing copy hands its source rows to the
  receiver together with what landed: the receiver is the one that writes them back in the gathering steps.
-/
module

public import proofs.«01_k».proof.Proof.Bands

@[expose] public section

noncomputable section

namespace Cert.Exchange

open Cert.KernelIdeal Cert.KernelIdeal.Gen Cert.Cube
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barC (c : Dev nD) : GSem nD τ sig := ((c : Thread nD τ), .reg barS)
abbrev sendC (g : Fin 3) (s : Fin 6) (c : Dev nD) : GSem nD τ sig := ((c : Thread nD τ), .dma (sendS g s))
abbrev recvC (g : Fin 3) (s : Fin 6) (c : Dev nD) : GSem nD τ sig := ((c : Thread nD τ), .dma (recvS g s))

/-- The group and the step of the copy a transfer semaphore belongs to. -/
def gOf (q : DmaSem sig) : Fin 3 := ⟨(q.val + 15) % 18 / 6 % 3, Nat.mod_lt _ (by decide)⟩
def sOf (q : DmaSem sig) : Fin 6 := ⟨(q.val + 15) % 18 % 6, Nat.mod_lt _ (by decide)⟩

theorem of_send (g : Fin 3) (s : Fin 6) : gOf (sendS g s) = g ∧ sOf (sendS g s) = s := by revert g s; decide
theorem of_recv (g : Fin 3) (s : Fin 6) : gOf (recvS g s) = g ∧ sOf (recvS g s) = s := by revert g s; decide
theorem send_lt (g : Fin 3) (s : Fin 6) : 3 ≤ (sendS g s).val ∧ (sendS g s).val < 21 := by revert g s; decide
theorem recv_ge (g : Fin 3) (s : Fin 6) : 21 ≤ (recvS g s).val := by revert g s; decide

/-- The rows a copy moves. -/
abbrev cnt (s : Fin 6) : ℕ := len (lev s)
theorem cnt_pos (s : Fin 6) : 0 < cnt s := by revert s; decide

/-! ## Payloads -/

section Pay
variable (D : Dev nD → S768x768.Idx → Elt F .f32)

/-- The slot of group `g`'s reducing step `s` at `c`'s partner, free to be written by `c`. -/
def slotP (g : Fin 3) (s : Fin 6) (c : Dev nD) : sProp 𝕄 := iprop(∃ f, scrP (peer g s c) (slot g s) (cnt s) f)

/-- The reducing step at which a group exchanges along an axis. -/
def stepAt (g j : Fin 3) : Fin 6 := ⟨(j.val + 3 - g.val) % 3, by omega⟩

theorem peer_stepAt (g j : Fin 3) (c : Dev nD) : peer g (stepAt g j) c = flip j c := by
  have h : ax g (dep (stepAt g j)) = j := by revert g j; decide
  unfold peer pr; rw [h]

/-- What the partner along axis `j` hands device `c` with its unit: its three slots that `c` writes. -/
def barPay (c : Dev nD) (j : Fin 3) : sProp 𝕄 := iprop(slotP 0 (stepAt 0 j) c ∗ slotP 1 (stepAt 1 j) c ∗ slotP 2 (stepAt 2 j) c)

/-- What device `c` has when a copy it sent has left: reducing, nothing (the rows went along); gathering, the rows. -/
def sendPay (g : Fin 3) (s : Fin 6) (c : Dev nD) : sProp 𝕄 :=
  if s.val < 3 then iprop(emp) else outP c (base g (lev s) c) (cnt s) (total D)

/-- What device `c` has when a copy to it has landed: reducing, the partner's partial sums in the slot, and the
    partner's rows they came from, to be written back; gathering, the partner's finished rows. -/
def recvPay (g : Fin 3) (s : Fin 6) (c : Dev nD) : sProp 𝕄 :=
  if s.val < 3 then iprop(scrP c (slot g s) (cnt s) (landed D g s c) ∗ ∃ f, outP (peer g s c) (base g (lev s) c) (cnt s) f)
  else outP c (base g (lev s) (peer g s c)) (cnt s) (total D)

/-! ## The schedule -/

/-- One round. A barrier cell has one duty of one unit per axis, a transfer cell one duty of its copy's credit. -/
def sched : Rounds.Schedule (GSem nD τ sig) (Fin 3) 𝕄 where
  duties x r := if r = 0 ∧ x.1.2 = .tc then (match x.2 with | .reg _ => Finset.univ | .dma q => if 3 ≤ q.val then {0} else ∅) else ∅
  unitless _ := False
  amount x _ _ := match x.2 with | .reg _ => 1 | .dma q => cr (cnt (sOf q))
  payload x _ d := match x.2 with
    | .reg _ => barPay x.1.1 d
    | .dma q => if q.val < 21 then sendPay D (gOf q) (sOf q) x.1.1 else recvPay D (gOf q) (sOf q) x.1.1
  amount_pos x _ _ _ := by
    show 0 < (match x.2 with | .reg _ => 1 | .dma q => cr (cnt (sOf q)) : ℕ)
    split
    · exact Nat.one_pos
    · exact cr_pos (cnt_pos _)

instance sched_storable (x : GSem nD τ sig) (r : ℕ) (d : Fin 3) : BI.Storable (upEmb : UEmb _ 𝕄) ((sched (F := F) D).payload x r d) := by
  show BI.Storable upEmb (match x.2 with
    | .reg _ => barPay x.1.1 d
    | .dma q => if q.val < 21 then sendPay D (gOf q) (sOf q) x.1.1 else recvPay D (gOf q) (sOf q) x.1.1)
  unfold barPay slotP sendPay recvPay
  (repeat' split) <;> infer_instance

variable (g : Fin 3) (s : Fin 6) (c : Dev nD)

theorem duties_tc (sm : SemLoc sig) :
    (sched (F := F) D).duties ((c : Thread nD τ), sm) 0 = match sm with | .reg _ => Finset.univ | .dma q => if 3 ≤ q.val then {0} else ∅ := by
  dsimp only [sched]; exact if_pos ⟨rfl, rfl⟩
theorem duties_bar : (sched (F := F) D).duties (barC c) 0 = Finset.univ := duties_tc D c _
theorem duties_send : (sched (F := F) D).duties (sendC g s c) 0 = {0} := (duties_tc D c _).trans (if_pos (send_lt g s).1)
theorem duties_recv : (sched (F := F) D).duties (recvC g s c) 0 = {0} :=
  (duties_tc D c _).trans (if_pos (le_trans (show 3 ≤ 21 by decide) (recv_ge g s)))
theorem duties_later (x : GSem nD τ sig) : ∀ r, 0 + 1 ≤ r → (sched (F := F) D).duties x r = ∅ := fun _ hr => if_neg fun h => by omega

theorem amount_send (d : Fin 3) : (sched (F := F) D).amount (sendC g s c) 0 d = cr (cnt s) := congrArg (fun s => cr (cnt s)) (of_send g s).2
theorem amount_recv (d : Fin 3) : (sched (F := F) D).amount (recvC g s c) 0 d = cr (cnt s) := congrArg (fun s => cr (cnt s)) (of_recv g s).2

theorem expect_bar : (sched (F := F) D).expect (barC c) 0 = 3 := by
  unfold Schedule.expect Schedule.amountOf; rw [duties_bar]; rfl
theorem expect_send : (sched (F := F) D).expect (sendC g s c) 0 = cr (cnt s) := by
  unfold Schedule.expect Schedule.amountOf; rw [duties_send, Finset.sum_singleton, amount_send]
theorem expect_recv : (sched (F := F) D).expect (recvC g s c) 0 = cr (cnt s) := by
  unfold Schedule.expect Schedule.amountOf; rw [duties_recv, Finset.sum_singleton, amount_recv]

theorem payload_send (d : Fin 3) : (sched (F := F) D).payload (sendC g s c) 0 d = sendPay D g s c := by
  show (if (sendS g s).val < 21 then sendPay D (gOf (sendS g s)) (sOf (sendS g s)) c else _) = _
  rw [if_pos (send_lt g s).2, (of_send g s).1, (of_send g s).2]
theorem payload_recv (d : Fin 3) : (sched (F := F) D).payload (recvC g s c) 0 d = recvPay D g s c := by
  show (if (recvS g s).val < 21 then _ else recvPay D (gOf (recvS g s)) (sOf (recvS g s)) c) = _
  rw [if_neg (Nat.not_lt.mpr (recv_ge g s)), (of_recv g s).1, (of_recv g s).2]

theorem rest_bar : bigSep ((sched (F := F) D).duties (barC c) 0 \ ∅) (fun d => (sched (F := F) D).payload (barC c) 0 d)
    = iprop(barPay c 0 ∗ barPay c 1 ∗ barPay c 2) := by
  rw [Finset.sdiff_empty, duties_bar]; exact bigSep_univ_eq_bigSepL [0, 1, 2] (by decide) (by decide) _
theorem rest_send : bigSep ((sched (F := F) D).duties (sendC g s c) 0 \ ∅) (fun d => (sched (F := F) D).payload (sendC g s c) 0 d) = sendPay D g s c := by
  rw [Finset.sdiff_empty, duties_send, bigSep_singleton, payload_send]
theorem rest_recv : bigSep ((sched (F := F) D).duties (recvC g s c) 0 \ ∅) (fun d => (sched (F := F) D).payload (recvC g s c) 0 d) = recvPay D g s c := by
  rw [Finset.sdiff_empty, duties_recv, bigSep_singleton, payload_recv]

end Pay

/-! ## What a device owes, and in which order it may wait -/

/-- Counting the eighteen copies from the last one back: the `k`-th has this group and this step. -/
def cg (k : ℕ) : Fin 3 := ⟨(17 - k) % 3, Nat.mod_lt _ (by decide)⟩
def cs (k : ℕ) : Fin 6 := ⟨(17 - k) / 3 % 6, Nat.mod_lt _ (by decide)⟩

/-- What device `c` owes with its last `k` copies still to start: each one's credit, to the cell it arrives at. -/
def left (c : Dev nD) : ℕ → CellTallies nD τ sig Unit
  | 0 => 0
  | k + 1 => left c k + tallyAt (recvC (cg k) (cs k) (peer (cg k) (cs k) c)) () (cr (cnt (cs k)))

/-- At launch it also owes each partner's barrier a unit; the first signal pays the last summand. -/
def owed (c : Dev nD) (k : ℕ) : CellTallies nD τ sig Unit := match k with
  | 0 => left c 18
  | 1 => left c 18 + tallyAt (barC (flip 2 c)) () 1
  | 2 => left c 18 + tallyAt (barC (flip 2 c)) () 1 + tallyAt (barC (flip 1 c)) () 1
  | _ => left c 18 + tallyAt (barC (flip 2 c)) () 1 + tallyAt (barC (flip 1 c)) () 1 + tallyAt (barC (flip 0 c)) () 1

def L (x : GSem nD τ sig) : Finset Unit := if x.1.2 = .tc then {()} else ∅
/-- The staging and sending cells lie lowest, then the barrier cells, then the arrivals, step by step. -/
def lv (x : GSem nD τ sig) (_ : Unit) : ℕ := match x.2 with | .reg _ => 1 | .dma q => if q.val < 21 then 0 else 2 + (sOf q).val

theorem L_of_ne (x : GSem nD τ sig) (h : x.1.2 ≠ .tc) : L x = ∅ := if_neg h
theorem L_tc (c : Dev nD) (sm : SemLoc sig) : () ∈ L ((c : Thread nD τ), sm) := by rw [L, if_pos rfl]; exact Finset.mem_singleton_self _

theorem lv_recv (g : Fin 3) (s : Fin 6) (c : Dev nD) : lv (recvC g s c) () = 2 + s.val := by
  show (if (recvS g s).val < 21 then 0 else 2 + (sOf (recvS g s)).val) = _
  rw [if_neg (Nat.not_lt.mpr (recv_ge g s)), (of_recv g s).2]

theorem lv_send (g : Fin 3) (s : Fin 6) (c : Dev nD) : lv (sendC g s c) () = 0 := if_pos (send_lt g s).2

theorem tally_pos {x y : GSem nD τ sig} {n : ℕ} {u : Unit} (h : 0 < tallyAt x () n y u) : y = x := by
  rw [tallyAt_apply] at h; by_contra hn; rw [if_neg fun e => hn e.1] at h; exact Nat.lt_irrefl 0 h

theorem left_pos {c : Dev nD} {x : GSem nD τ sig} {u : Unit} : ∀ {k : ℕ}, 0 < left c k x u → ∃ d g s, x = recvC g s d ∧ ∃ j < k, s = cs j
  | 0, h => absurd h (Nat.lt_irrefl 0)
  | k + 1, h => by
    rw [left, Pi.add_apply, Finsupp.add_apply] at h
    rcases Nat.eq_zero_or_pos (left c k x u) with h0 | h0
    · rw [h0, Nat.zero_add] at h
      exact ⟨_, _, _, tally_pos h, k, Nat.lt_succ_self k, rfl⟩
    · obtain ⟨d, g, s, hx, j, hj, hs⟩ := left_pos h0
      exact ⟨d, g, s, hx, j, Nat.lt_succ_of_lt hj, hs⟩

theorem owed_pos {c : Dev nD} {x : GSem nD τ sig} {u : Unit} (h : 0 < owed c 3 x u) : (∃ d, x = barC d) ∨ ∃ d g s, x = recvC g s d := by
  have h' : 0 < left c 18 x u ∨ 0 < tallyAt (barC (flip 2 c)) () 1 x u ∨ 0 < tallyAt (barC (flip 1 c)) () 1 x u ∨ 0 < tallyAt (barC (flip 0 c)) () 1 x u := by
    simp only [owed, Pi.add_apply, Finsupp.add_apply] at h; omega
  rcases h' with h | h | h | h
  · obtain ⟨d, g, s, hx, -⟩ := left_pos h; exact .inr ⟨d, g, s, hx⟩
  all_goals exact .inl ⟨_, tally_pos h⟩

/-- A device may wait at a level below everything it owes. -/
theorem mayWait (c : Dev nD) (sm : SemLoc sig) (b : ℕ) (hb : lv ((c : Thread nD τ), sm) () ≤ b) (O : CellTallies nD τ sig Unit)
    (hO : ∀ x u, 0 < O x u → x.1.2 = .tc ∧ b < lv x u) : (levAts L lv : sProp 𝕄) ⊢ MayWait (c : Thread nD τ) sm () O :=
  MayOwe.of_cut (L := L) (lev := lv) b (fun p hp => by rw [Finset.mem_singleton.mp hp]; exact L_tc c sm)
    (fun x u hx => by rw [L, if_pos (hO x u hx).1]; exact Finset.mem_singleton_self _)
    (fun p hp => by rw [Finset.mem_singleton.mp hp]; exact hb) (fun x u hx => (hO x u hx).2)

/-- With the last `k` copies to start, it may wait below the first of them. -/
theorem mayWait_left (c : Dev nD) (sm : SemLoc sig) (k b : ℕ) (hb : lv ((c : Thread nD τ), sm) () ≤ b) (hk : ∀ j < k, b < 2 + (cs j).val) :
    (levAts L lv : sProp 𝕄) ⊢ MayWait (c : Thread nD τ) sm () (left c k) :=
  mayWait c sm b hb _ fun x u hx => by
    obtain ⟨d, g, s, rfl, j, hj, rfl⟩ := left_pos hx
    exact ⟨rfl, by rw [lv_recv]; exact hk j hj⟩

end Cert.Exchange
-- ==== Proof.Steps.lean ====
/-
  The kernel's operations, each as one rule: starting a reducing copy, starting a gathering copy, waiting for a copy
  both ways, adding what landed. Every rule is stated at a group, a step and a device, and used at each of them.
-/
module

public import proofs.«01_k».proof.Proof.Sched

@[expose] public section

noncomputable section

namespace Cert.Exchange

open Cert.KernelIdeal Cert.KernelIdeal.Gen Cert.Cube
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All the cells, and what everybody may know of them -/

/-- A device's cells: its barrier cell, its sending cells, its receiving cells. -/
abbrev Cell : Type := Unit ⊕ (Fin 3 × Fin 6) ⊕ (Fin 3 × Fin 6)
def cellS : Cell → SemLoc sig
  | .inl _ => .reg barS
  | .inr (.inl i) => .dma (sendS i.1 i.2)
  | .inr (.inr i) => .dma (recvS i.1 i.2)
abbrev cell (x : Dev nD × Cell) : GSem nD τ sig := ((x.1 : Thread nD τ), cellS x.2)

variable (D : Dev nD → S768x768.Idx → Elt F .f32) (K : Dev nD × Cell → ℕ)

/-- Every cell's invariant, that every cell has reached its one round, and the levels. -/
def known : sProp 𝕄 :=
  iprop((bigSep Finset.univ fun x => cellInv ER (sched D) (K x) (cell x)) ∗ (bigSep Finset.univ fun x => reached ER (cell x) 0) ∗ levAts L lv)

instance known_persistent : BI.Persistent (known D K) := by unfold known; infer_instance

theorem known_cell (x : Dev nD × Cell) : known D K ⊢ iprop(cellInv ER (sched D) (K x) (cell x) ∗ reached ER (cell x) 0 ∗ levAts L lv) := by
  unfold known
  exact BIClass.sep_mono (bigSep_elim (Finset.mem_univ x)) (sep_mono_left (bigSep_elim (Finset.mem_univ x)))

/-! ## A device's share of the protocol -/

/-- What device `c` owes, whatever waits it has on record. -/
def Ow (c : Dev nD) (O : CellTallies nD τ sig Unit) : sProp 𝕄 := iprop(∃ W, owes (c : Thread nD τ) O W)

/-- What it takes for device `c` to run a piece of the kernel's body to a postcondition. -/
abbrev exec {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

section Copy
variable (g : Fin 3) (s : Fin 6) (c : Dev nD)

/-- Its right to the copy that arrives, and its places at the two cells; -/
def rest : sProp 𝕄 :=
  iprop(cred (tallyAt (recvC g s c) () (cr (cnt s))) ∗ atPos ER (sendC g s c) 0 ∅ 0 ∗ atPos ER (recvC g s c) 0 ∅ 0)
/-- before it starts its copy, with the tokens of the two duties the copy discharges; -/
def ready : sProp 𝕄 := iprop((dutyTok ER (sendC g s c) 0 0 ∗ dutyTok ER (recvC g s (peer g s c)) 0 0) ∗ rest g s c)
/-- while the copy is under way, with the right to see it leave; -/
def flying : sProp 𝕄 := iprop(cred (tallyAt (sendC g s c) () (cr (cnt s))) ∗ rest g s c)
/-- afterwards, both cells at zero. -/
def done : sProp 𝕄 := iprop(semVal (sendC g s c) 0 ∗ semVal (recvC g s c) 0)

/-- Splitting a band into the half a device keeps and the half its partner keeps, and putting the halves together. -/
theorem band (g : Fin 3) (l : Fin 3) (c : Dev nD) (f : S768x768.Idx → Elt F .f32) :
    outP c (base g l c) (len l) f ⊣⊢ iprop(outP c (base g (l + 1) c) (len (l + 1)) f ∗ outP c (base g (l + 1) (pr g l c)) (len (l + 1)) f) := by
  rw [len_half l]
  rcases halves g l c with ⟨h, h'⟩ | ⟨h, h'⟩
  · rw [h, h']; exact outP_append c _ _ _ f
  · rw [h, h']
    exact ⟨(outP_append c _ _ _ f).1.trans sep_comm.1, sep_comm.1.trans (outP_append c _ _ _ f).2⟩

theorem src_reduce (hs : s.val < 3) : src g s c = base g (lev s) (peer g s c) := if_pos hs
theorem src_gather (hs : ¬ s.val < 3) : src g s c = base g (lev s) c := if_neg hs

theorem recv_reduce (hs : s.val < 3) :
    recvPay D g s c = iprop(scrP c (slot g s) (cnt s) (landed D g s c) ∗ ∃ f, outP (peer g s c) (base g (lev s) c) (cnt s) f) := if_pos hs
theorem recv_gather (hs : ¬ s.val < 3) : recvPay D g s c = outP c (base g (lev s) (peer g s c)) (cnt s) (total D) := if_neg hs
theorem send_reduce (hs : s.val < 3) : sendPay D g s c = iprop(emp) := if_pos hs
theorem send_gather (hs : ¬ s.val < 3) : sendPay D g s c = outP c (base g (lev s) c) (cnt s) (total D) := if_neg hs

/-- What a reducing copy leaves at its receiver is that receiver's payload. -/
theorem landing (hs : s.val < 3) (fd : S672x768.Idx → Elt F .f32) {ia ib} :
    iprop((((peer g s c : Dev nD) : Thread nD τ).loc cc0_scratch0 ↦[(scrV (at0 (slot g s)) (cnt s) ib).set]{fullShare}
          (scrV (at0 (slot g s)) (cnt s) ib).write (Elt F) fd ((outV (at0 (src g s c)) (cnt s) ia).read (Elt F) (part D g (dep s) c)) Finset.univ)
        ∗ ((c : Thread nD τ).loc cc0_stg2_0 ↦[(outV (at0 (src g s c)) (cnt s) ia).set]{fullShare} part D g (dep s) c))
      ⊢ recvPay D g s (peer g s c) := by
  have e := src_reduce g s c hs
  generalize src g s c = o at ia e ⊢
  subst e
  rw [recv_reduce D g s _ hs, peer_peer, out_set, scr_set]
  refine BIClass.sep_mono (Entails.of_eq (scrP_congr (peer g s c) (slot g s) (cnt s) fun i hi => ?_)) ?_
  · obtain ⟨j, rfl⟩ := put_of_mem (inb_le ib) hi
    rw [landed_put D g s _ (inb_le ib) (inb_le ia), peer_peer, scr_write, out_read]
  · unfold outP; iintro H; iexists part D g (dep s) c; iexact H

/-- A reducing copy: the rows the partner keeps go into its slot, and along with them the right to write them back. -/
theorem start_reduce {α : Type} {Q : α → sProp 𝕄} (hs : s.val < 3) (n : Dev nD) (hn : n = peer g s c) {m : ℕ} (hm : m = cnt s) (k : ℕ)
    (hk : left c (k + 1) = left c k + tallyAt (recvC g s (peer g s c)) () (cr (cnt s)))
    {a b : Fin 2 → ℕ} {ia ib} (ha : a = at0 (src g s c)) (hb : b = at0 (slot g s))
    {hsc : (rM.slice (Rect.unit (s := S672x768) b (Sn m).size ib) (fun _ => rfl) : Memref sig (Dev.tc n : Thread nD τ).2.kind .vmem (Sn m) .f32).view.ref.isScScratch = false}
    {hx hy hsem} {kk : PUnit → Prog (TpuEff nD τ sig (Elt F) Λ₀ .tc) α} :
    iprop(known D K ∗ Ow c (left c (k + 1)) ∗ ready g s c ∗ outP c (src g s c) (cnt s) (part D g (dep s) c) ∗ slotP g s c)
      ⊢ iprop(((Ow c (left c k) ∗ flying g s c) -∗ exec c (kk ⟨⟩) Q)
          -∗ exec c (.op (.enqueueDma (oM.slice (Rect.unit (s := S768x768) a (Sn m).size ia) (fun _ => rfl))
                (.remote (Dev.tc n : Thread nD τ) (rM.slice (Rect.unit (s := S672x768) b (Sn m).size ib) (fun _ => rfl)) (.dma (sendS g s)) hsc)
                (.dma (recvS g s)) hx hy hsem) kk) Q) := by
  subst hn hm ha hb
  unfold Ow ready slotP outP
  iintro ⟨#HK, ⟨%W, HO⟩, ⟨⟨Hts, Htr⟩, Hrest⟩, Hsrc, ⟨%fd, Hdst⟩⟩ Hk
  ihave ⟨#HIs, #HRs, -⟩ := (known_cell D K (c, .inr (.inl (g, s)))) $$ HK
  ihave ⟨#HIr, #HRr, -⟩ := (known_cell D K (peer g s c, .inr (.inr (g, s)))) $$ HK
  unfold scrP
  rw [← out_set (inb := ia), ← scr_set (inb' := ib)]
  iapply (Rounds.wp_send_landing_pointsTo Variants.none ER (sched D) (c : Thread nD τ) none
      (r₁ := 0) (r₂ := 0) (d₁ := 0) (d₂ := 0) (q := fullShare) (fs := part D g (dep s) c) (fd := fd)
      (by rw [duties_send]; exact Finset.mem_singleton_self _) (by rw [duties_recv]; exact Finset.mem_singleton_self _)
      () () (cr (cnt s)) rfl (amount_send D g s c 0) (amount_recv D g s (peer g s c) 0) (left c k) hk (W := W)
      (Entails.of_eq ((payload_send D g s c 0).trans (send_reduce D g s c hs)).symm)
      (by rw [payload_recv]; exact landing D g s c hs fd)) $$ [HO Hts Htr Hsrc Hdst]
  · isplitr; · iexact HIs
    isplitr; · iexact HIr
    isplitl [Hsrc]; · iexact Hsrc
    isplitl [Hdst]; · iexact Hdst
    isplitl [HO]; · iexact HO
    isplitl [Hts]; · iexact Hts
    isplitr; · iexact HRs
    isplitl [Htr]; · iexact Htr
    iexact HRr
  iintro ⟨Hc, HO⟩
  iapply Hk
  isplitl [HO]; · iexists W; iexact HO
  unfold flying
  isplitl [Hc] <;> iassumption

/-- A gathering copy: a device's finished rows go to the same rows of its partner, which lent them before. -/
theorem start_gather {α : Type} {Q : α → sProp 𝕄} (hs : ¬ s.val < 3) (n : Dev nD) (hn : n = peer g s c) {m : ℕ} (hm : m = cnt s) (k : ℕ)
    (hk : left c (k + 1) = left c k + tallyAt (recvC g s (peer g s c)) () (cr (cnt s)))
    {a : Fin 2 → ℕ} {ia ib} (ha : a = at0 (src g s c))
    {hsc : (oM.slice (Rect.unit (s := S768x768) a (Sn m).size ib) (fun _ => rfl) : Memref sig (Dev.tc n : Thread nD τ).2.kind .vmem (Sn m) .f32).view.ref.isScScratch = false}
    {hx hy hsem} {kk : PUnit → Prog (TpuEff nD τ sig (Elt F) Λ₀ .tc) α} :
    iprop(known D K ∗ Ow c (left c (k + 1)) ∗ ready g s c ∗ outP c (base g (lev s) c) (cnt s) (total D)
        ∗ ∃ f, outP (peer g s c) (base g (lev s) c) (cnt s) f)
      ⊢ iprop(((Ow c (left c k) ∗ flying g s c) -∗ exec c (kk ⟨⟩) Q)
          -∗ exec c (.op (.enqueueDma (oM.slice (Rect.unit (s := S768x768) a (Sn m).size ia) (fun _ => rfl))
                (.remote (Dev.tc n : Thread nD τ) (oM.slice (Rect.unit (s := S768x768) a (Sn m).size ib) (fun _ => rfl)) (.dma (sendS g s)) hsc)
                (.dma (recvS g s)) hx hy hsem) kk) Q) := by
  rw [src_gather g s c hs] at ha
  subst hn hm ha
  unfold Ow ready outP
  iintro ⟨#HK, ⟨%W, HO⟩, ⟨⟨Hts, Htr⟩, Hrest⟩, Hsrc, ⟨%fd, Hdst⟩⟩ Hk
  ihave ⟨#HIs, #HRs, -⟩ := (known_cell D K (c, .inr (.inl (g, s)))) $$ HK
  ihave ⟨#HIr, #HRr, -⟩ := (known_cell D K (peer g s c, .inr (.inr (g, s)))) $$ HK
  rw [← out_set (inb := ia)]
  iapply (Rounds.wp_send_pointsTo Variants.none ER (sched D) (c : Thread nD τ) none
      (r₁ := 0) (r₂ := 0) (d₁ := 0) (d₂ := 0) (q := fullShare) (fs := total D) (fd := fd)
      (by rw [duties_send]; exact Finset.mem_singleton_self _) (by rw [duties_recv]; exact Finset.mem_singleton_self _)
      () () (cr (cnt s)) rfl (amount_send D g s c 0) (amount_recv D g s (peer g s c) 0) (left c k) hk (W := W)
      (Entails.of_eq (Eq.trans (by unfold outP; rw [← out_set (inb := ia)]) ((payload_send D g s c 0).trans (send_gather D g s c hs)).symm))
      (by
        rw [payload_recv, recv_gather D g s _ hs, peer_peer]
        refine Entails.of_eq (Eq.trans ?_ (outP_congr (peer g s c) (base g (lev s) c) (cnt s)
          (f := (outV (at0 (base g (lev s) c)) (cnt s) ib).write (Elt F) fd ((outV (at0 (base g (lev s) c)) (cnt s) ia).read (Elt F) (total D)) Finset.univ)
          fun i hi => ?_))
        · unfold outP; rw [← out_set (inb := ib)]
        · obtain ⟨j, rfl⟩ := put_of_mem (inb_le ib) hi
          rw [out_write, out_read])) $$ [HO Hts Htr Hsrc Hdst]
  · isplitr; · iexact HIs
    isplitr; · iexact HIr
    isplitl [Hsrc]; · iexact Hsrc
    isplitl [Hdst]; · iexact Hdst
    isplitl [HO]; · iexact HO
    isplitl [Hts]; · iexact Hts
    isplitr; · iexact HRs
    isplitl [Htr]; · iexact Htr
    iexact HRr
  iintro ⟨Hc, HO⟩
  iapply Hk
  isplitl [HO]; · iexists W; iexact HO
  unfold flying
  isplitl [Hc] <;> iassumption

/-- Waiting for a copy to leave and for its counterpart to arrive, when all later steps' copies are still to start. -/
theorem await {α : Type} {Q : α → sProp 𝕄} (k : ℕ) (hk : ∀ j < k, s.val < (cs j).val)
    {w w' : TpuEff nD τ sig (Elt F) Λ₀ .tc PUnit} {n : ℕ} (hn : n = cr (cnt s))
    (hw : ∀ P : PUnit → sProp 𝕄, wpE (defs₀ (F := F)) Variants.none (c : Thread nD τ) none Set.univ w P
      = waitSpec (c : Thread nD τ) Set.univ (.dma (sendS g s)) n P)
    (hw' : ∀ P : PUnit → sProp 𝕄, wpE (defs₀ (F := F)) Variants.none (c : Thread nD τ) none Set.univ w' P
      = waitSpec (c : Thread nD τ) Set.univ (.dma (recvS g s)) n P)
    {kk : PUnit → Prog (TpuEff nD τ sig (Elt F) Λ₀ .tc) α} :
    iprop(known D K ∗ Ow c (left c k) ∗ flying g s c)
      ⊢ iprop(((Ow c (left c k) ∗ done g s c ∗ sendPay D g s c ∗ recvPay D g s c) -∗ exec c (kk ⟨⟩) Q)
          -∗ exec c (.op w fun _ => .op w' kk) Q) := by
  subst hn
  unfold Ow flying rest
  iintro ⟨#HK, ⟨%W, HO⟩, Hcs, Hcr, Has, Har⟩ Hk
  ihave ⟨#HIs, -, #Hlev⟩ := (known_cell D K (c, .inr (.inl (g, s)))) $$ HK
  ihave ⟨#HIr, -, -⟩ := (known_cell D K (c, .inr (.inr (g, s)))) $$ HK
  iapply (Rounds.wp_wait_rest_token Variants.none ER (sched D) (c : Thread nD τ) none hw (Set.mem_univ _) () (O := left c k) (W := W)
      (R := 0) (m := 0) (T := ∅) (by rw [Nat.zero_add, expect_send])) $$ [Hcs HO Has]
  · isplitr; · iexact HIs
    isplitl [Hcs]; · iexact Hcs
    isplitl [HO]; · iexact HO
    isplitr
    · iapply (mayWait_left (F := F) c (.dma (sendS g s)) k 0 (le_of_eq (lv_send g s c)) fun j _ => by omega)
      iexact Hlev
    iexact Has
  iintro ⟨HO, Has, -, Hps⟩
  iapply (Rounds.wp_wait_rest_token Variants.none ER (sched D) (c : Thread nD τ) none hw' (Set.mem_univ _) () (O := left c k)
      (R := 0) (m := 0) (T := ∅) (by rw [Nat.zero_add, expect_recv])) $$ [Hcr HO Har]
  · isplitr; · iexact HIr
    isplitl [Hcr]; · iexact Hcr
    isplitl [HO]; · iexact HO
    isplitr
    · iapply (mayWait_left (F := F) c (.dma (recvS g s)) k (2 + s.val) (le_of_eq (lv_recv g s c)) fun j hj => by have := hk j hj; omega)
      iexact Hlev
    iexact Har
  iintro ⟨HO, Har, -, Hpr⟩
  imod (Rounds.cell_close ER (sched D) (Set.mem_univ (K (c, .inr (.inl (g, s))))) (fun h => h) (duties_later D (sendC g s c))) $$ [Has] with Hzs
  · isplitr; · iexact HIs
    iexact Has
  imod (Rounds.cell_close ER (sched D) (Set.mem_univ (K (c, .inr (.inr (g, s))))) (fun h => h) (duties_later D (recvC g s c))) $$ [Har] with Hzr
  · isplitr; · iexact HIr
    iexact Har
  iapply Hk
  isplitl [HO]; · iexists _; iexact HO
  unfold done
  isplitl [Hzs Hzr]; · isplitl [Hzs] <;> iassumption
  isplitl [Hps]
  · iapply (Entails.of_eq (rest_send D g s c)); iexact Hps
  · iapply (Entails.of_eq (rest_recv D g s c)); iexact Hpr

/-- Adding what landed to the rows the device keeps. -/
theorem accumulate {α : Type} {Q : α → sProp 𝕄} {m : ℕ} (hm : m = cnt s) {a b : Fin 2 → ℕ} {ia ib} (ha : a = at0 (base g (lev s) c)) (hb : b = at0 (slot g s))
    (pay : ((Sn m).Idx → Elt F .f32) → ((Sn m).Idx → Elt F .f32) → (Sn m).Idx → Elt F .f32) (hpay : ∀ v w j, pay v w j = FloatOps.addf (φ := .f32) (v j) (w j))
    {hl hl' hl'' hx hw} {kk : PUnit → Prog (TpuEff nD τ sig (Elt F) Λ₀ .tc) α} :
    iprop(outP c (base g (lev s) c) (cnt s) (part D g (dep s) c) ∗ scrP c (slot g s) (cnt s) (landed D g s c))
      ⊢ iprop(((outP c (base g (lev s) c) (cnt s) (part D g (lev s) c) ∗ scrP c (slot g s) (cnt s) (landed D g s c)) -∗ exec c (kk ⟨⟩) Q)
          -∗ exec c (.op (.load oM (Rect.unit (s := S768x768) a (Sn m).size ia).toLoadRect hl) fun v =>
              .op (.load rM (Rect.unit (s := S672x768) b (Sn m).size ib).toLoadRect hl') fun w =>
              .op (.load oM (Rect.unit (s := S768x768) a (Sn m).size ia).toLoadRect hl'') fun _ =>
              .op (.store oM (Rect.unit (s := S768x768) a (Sn m).size ia) (pay v w) Finset.univ hx hw) kk) Q) := by
  subst hm ha hb
  have hst : ((oM.access (Rect.unit (s := S768x768) (at0 (base g (lev s) c)) (Sn (cnt s)).size ia)).loc (c : Thread nD τ) ↦[rows 768 (base g (lev s) c) (cnt s)]{fullShare}
        ((oM.access (Rect.unit (s := S768x768) (at0 (base g (lev s) c)) (Sn (cnt s)).size ia)).write (Elt F) (part D g (dep s) c)
          (pay ((oM.access (Rect.unit (s := S768x768) (at0 (base g (lev s) c)) (Sn (cnt s)).size ia)).read (Elt F) (part D g (dep s) c))
            ((rM.access (Rect.unit (s := S672x768) (at0 (slot g s)) (Sn (cnt s)).size ib)).read (Elt F) (landed D g s c))) Finset.univ) : sProp 𝕄)
      ⊢ outP c (base g (lev s) c) (cnt s) (part D g (lev s) c) :=
    Entails.of_eq (outP_congr c (base g (lev s) c) (cnt s) fun i hi => by
      obtain ⟨j, rfl⟩ := put_of_mem (inb_le ia) hi
      refine (out_write _ _ j).trans ((hpay _ _ j).trans ?_)
      exact congrArg₂ FloatOps.addf (out_read _ j) ((scr_read _ j).trans (landed_put D g s c (inb_le ib) (inb_le ia) j)))
  unfold outP at hst
  iintro ⟨Ho, Hs⟩ Hk
  unfold outP scrP
  iapply (wp_load_rect Variants.none (c : Thread nD τ) none Set.univ (m := oM) (r := Rect.unit (s := S768x768) (at0 (base g (lev s) c)) (Sn (cnt s)).size ia) (S := rows 768 (base g (lev s) c) (cnt s)) (out_set (inb := ia)).le) $$ Ho; iintro Ho
  iapply (wp_load_rect Variants.none (c : Thread nD τ) none Set.univ (m := rM) (r := Rect.unit (s := S672x768) (at0 (slot g s)) (Sn (cnt s)).size ib) (S := rows 672 (slot g s) (cnt s)) (scr_set (inb' := ib)).le) $$ Hs; iintro Hs
  iapply (wp_load_rect Variants.none (c : Thread nD τ) none Set.univ (m := oM) (r := Rect.unit (s := S768x768) (at0 (base g (lev s) c)) (Sn (cnt s)).size ia) (S := rows 768 (base g (lev s) c) (cnt s)) (out_set (inb := ia)).le) $$ Ho; iintro Ho
  iapply (wp_store Variants.none (c : Thread nD τ) none Set.univ (m := oM) (r := Rect.unit (s := S768x768) (at0 (base g (lev s) c)) (Sn (cnt s)).size ia) (Mk := Finset.univ) (S := rows 768 (base g (lev s) c) (cnt s)) (out_set (inb := ia)).le) $$ Ho; iintro Ho
  iapply Hk
  isplitl [Ho]
  · iapply hst $$ Ho
  · iexact Hs

/-! ## The same rules on whole bands: a reducing step halves the band, a gathering step doubles it -/

/-- The band of depth `l` with the sums over `l` axes, -/
def reduced (g : Fin 3) (l : ℕ) (c : Dev nD) : sProp 𝕄 := outP c (base g l c) (len l) (part D g l c)
/-- and with the sums over all devices; -/
def gathered (g : Fin 3) (l : ℕ) (c : Dev nD) : sProp 𝕄 := outP c (base g l c) (len l) (total D)
/-- a partner's rows, on loan from the reducing to the gathering step of the same axis; -/
def lent (g : Fin 3) (l : ℕ) (c : Dev nD) : sProp 𝕄 := iprop(∃ f, outP (F := F) (pr g l c) (base g (l + 1) c) (len (l + 1)) f)
/-- a device's own landing slot. -/
def mine (g : Fin 3) (s : Fin 6) (c : Dev nD) : sProp 𝕄 := iprop(∃ f, scrP (F := F) c (slot g s) (cnt s) f)

theorem dep_lt (s : Fin 6) : dep s < 3 := by revert s; decide

theorem reduce_start {α : Type} {Q : α → sProp 𝕄} (hs : s.val < 3) (n : Dev nD) (hn : n = peer g s c) {m : ℕ} (hm : m = cnt s) (k : ℕ)
    (hk : left c (k + 1) = left c k + tallyAt (recvC g s (peer g s c)) () (cr (cnt s)))
    {a b : Fin 2 → ℕ} {ia ib} (ha : a = at0 (src g s c)) (hb : b = at0 (slot g s))
    {hsc : (rM.slice (Rect.unit (s := S672x768) b (Sn m).size ib) (fun _ => rfl) : Memref sig (Dev.tc n : Thread nD τ).2.kind .vmem (Sn m) .f32).view.ref.isScScratch = false}
    {hx hy hsem} {kk : PUnit → Prog (TpuEff nD τ sig (Elt F) Λ₀ .tc) α} :
    iprop(known D K ∗ Ow c (left c (k + 1)) ∗ ready g s c ∗ reduced D g (dep s) c ∗ slotP g s c)
      ⊢ iprop(((Ow c (left c k) ∗ flying g s c ∗ outP c (base g (lev s) c) (cnt s) (part D g (dep s) c)) -∗ exec c (kk ⟨⟩) Q)
          -∗ exec c (.op (.enqueueDma (oM.slice (Rect.unit (s := S768x768) a (Sn m).size ia) (fun _ => rfl))
                (.remote (Dev.tc n : Thread nD τ) (rM.slice (Rect.unit (s := S672x768) b (Sn m).size ib) (fun _ => rfl)) (.dma (sendS g s)) hsc)
                (.dma (recvS g s)) hx hy hsem) kk) Q) := by
  iintro ⟨HK, HO, Hr, Hb, Hs⟩ Hk
  unfold reduced
  ihave ⟨Hkeep, Hsend⟩ := (band g ⟨dep s, dep_lt s⟩ c (part D g (dep s) c)).1 $$ Hb
  iapply (start_reduce D K g s c hs n hn hm k hk ha hb) $$ [HK HO Hr Hsend Hs]
  · isplitl [HK]; · iexact HK
    isplitl [HO]; · iexact HO
    isplitl [Hr]; · iexact Hr
    isplitl [Hsend]; · rw [src_reduce g s c hs]; iexact Hsend
    iexact Hs
  iintro ⟨HO, Hf⟩
  iapply Hk
  isplitl [HO]; · iexact HO
  isplitl [Hf]; · iexact Hf
  iexact Hkeep

theorem reduce_finish {α : Type} {Q : α → sProp 𝕄} (hs : s.val < 3) (k : ℕ) (hk : ∀ j < k, s.val < (cs j).val)
    {w w' : TpuEff nD τ sig (Elt F) Λ₀ .tc PUnit} {n : ℕ} (hn : n = cr (cnt s))
    (hw : ∀ P : PUnit → sProp 𝕄, wpE (defs₀ (F := F)) Variants.none (c : Thread nD τ) none Set.univ w P
      = waitSpec (c : Thread nD τ) Set.univ (.dma (sendS g s)) n P)
    (hw' : ∀ P : PUnit → sProp 𝕄, wpE (defs₀ (F := F)) Variants.none (c : Thread nD τ) none Set.univ w' P
      = waitSpec (c : Thread nD τ) Set.univ (.dma (recvS g s)) n P)
    {m : ℕ} (hm : m = cnt s) {a b : Fin 2 → ℕ} {ia ib} (ha : a = at0 (base g (lev s) c)) (hb : b = at0 (slot g s))
    (pay : ((Sn m).Idx → Elt F .f32) → ((Sn m).Idx → Elt F .f32) → (Sn m).Idx → Elt F .f32) (hpay : ∀ v w j, pay v w j = FloatOps.addf (φ := .f32) (v j) (w j))
    {hl hl' hl'' hx hy} {kk : PUnit → Prog (TpuEff nD τ sig (Elt F) Λ₀ .tc) α} :
    iprop(known D K ∗ Ow c (left c k) ∗ flying g s c ∗ outP c (base g (lev s) c) (cnt s) (part D g (dep s) c))
      ⊢ iprop(((Ow c (left c k) ∗ done g s c ∗ reduced D g (lev s) c ∗ mine g s c ∗ lent g (dep s) c) -∗ exec c (kk ⟨⟩) Q)
          -∗ exec c (.op w fun _ => .op w' fun _ =>
              .op (.load oM (Rect.unit (s := S768x768) a (Sn m).size ia).toLoadRect hl) fun v =>
              .op (.load rM (Rect.unit (s := S672x768) b (Sn m).size ib).toLoadRect hl') fun w =>
              .op (.load oM (Rect.unit (s := S768x768) a (Sn m).size ia).toLoadRect hl'') fun _ =>
              .op (.store oM (Rect.unit (s := S768x768) a (Sn m).size ia) (pay v w) Finset.univ hx hy) kk) Q) := by
  iintro ⟨HK, HO, Hf, Hb⟩ Hk
  iapply (await D K g s c k hk hn hw hw') $$ [HK HO Hf]
  · isplitl [HK]; · iexact HK
    isplitl [HO] <;> iassumption
  rw [recv_reduce D g s c hs]
  iintro ⟨HO, Hd, -, Hl, Hlent⟩
  iapply (accumulate D g s c hm ha hb pay hpay) $$ [Hb Hl]
  · isplitl [Hb] <;> iassumption
  iintro ⟨Hb, Hl⟩
  iapply Hk
  isplitl [HO]; · iexact HO
  isplitl [Hd]; · iexact Hd
  unfold reduced mine lent
  isplitl [Hb]; · iexact Hb
  isplitl [Hl]; · iexists _; iexact Hl
  iexact Hlent

theorem gather_start {α : Type} {Q : α → sProp 𝕄} (hs : ¬ s.val < 3) (n : Dev nD) (hn : n = peer g s c) {m : ℕ} (hm : m = cnt s) (k : ℕ)
    (hk : left c (k + 1) = left c k + tallyAt (recvC g s (peer g s c)) () (cr (cnt s)))
    {a : Fin 2 → ℕ} {ia ib} (ha : a = at0 (src g s c))
    {hsc : (oM.slice (Rect.unit (s := S768x768) a (Sn m).size ib) (fun _ => rfl) : Memref sig (Dev.tc n : Thread nD τ).2.kind .vmem (Sn m) .f32).view.ref.isScScratch = false}
    {hx hy hsem} {kk : PUnit → Prog (TpuEff nD τ sig (Elt F) Λ₀ .tc) α} :
    iprop(known D K ∗ Ow c (left c (k + 1)) ∗ ready g s c ∗ gathered D g (lev s) c ∗ lent g (dep s) c)
      ⊢ iprop(((Ow c (left c k) ∗ flying g s c) -∗ exec c (kk ⟨⟩) Q)
          -∗ exec c (.op (.enqueueDma (oM.slice (Rect.unit (s := S768x768) a (Sn m).size ia) (fun _ => rfl))
                (.remote (Dev.tc n : Thread nD τ) (oM.slice (Rect.unit (s := S768x768) a (Sn m).size ib) (fun _ => rfl)) (.dma (sendS g s)) hsc)
                (.dma (recvS g s)) hx hy hsem) kk) Q) :=
  start_gather D K g s c hs n hn hm k hk ha

theorem gather_finish {α : Type} {Q : α → sProp 𝕄} (hs : ¬ s.val < 3) (k : ℕ) (hk : ∀ j < k, s.val < (cs j).val)
    {w w' : TpuEff nD τ sig (Elt F) Λ₀ .tc PUnit} {n : ℕ} (hn : n = cr (cnt s))
    (hw : ∀ P : PUnit → sProp 𝕄, wpE (defs₀ (F := F)) Variants.none (c : Thread nD τ) none Set.univ w P
      = waitSpec (c : Thread nD τ) Set.univ (.dma (sendS g s)) n P)
    (hw' : ∀ P : PUnit → sProp 𝕄, wpE (defs₀ (F := F)) Variants.none (c : Thread nD τ) none Set.univ w' P
      = waitSpec (c : Thread nD τ) Set.univ (.dma (recvS g s)) n P)
    {kk : PUnit → Prog (TpuEff nD τ sig (Elt F) Λ₀ .tc) α} :
    iprop(known D K ∗ Ow c (left c k) ∗ flying g s c)
      ⊢ iprop(((Ow c (left c k) ∗ done g s c ∗ gathered D g (dep s) c) -∗ exec c (kk ⟨⟩) Q) -∗ exec c (.op w fun _ => .op w' kk) Q) := by
  iintro H Hk
  iapply (await D K g s c k hk hn hw hw') $$ H
  rw [recv_gather D g s c hs, send_gather D g s c hs]
  iintro ⟨HO, Hd, Hown, Htheirs⟩
  iapply Hk
  isplitl [HO]; · iexact HO
  isplitl [Hd]; · iexact Hd
  unfold gathered
  iapply (band g ⟨dep s, dep_lt s⟩ c (total D)).2
  isplitl [Hown]; · iexact Hown
  iexact Htheirs

/-- The sums over all three axes are the sums over all devices. -/
theorem reduced_three : reduced D g 3 c = gathered D g 3 c := outP_congr c _ _ (total_eq D g c)

end Copy

/-! ## The barrier -/

/-- A device's own slots that the partner along axis `j` writes to. -/
def offer (c : Dev nD) (j : Fin 3) : sProp 𝕄 := iprop(mine (F := F) 0 (stepAt 0 j) c ∗ mine (F := F) 1 (stepAt 1 j) c ∗ mine (F := F) 2 (stepAt 2 j) c)

theorem offer_eq (c : Dev nD) (j : Fin 3) : offer (F := F) c j = barPay (flip j c) j := by
  have h : ∀ g, mine (F := F) g (stepAt g j) c = slotP g (stepAt g j) (flip j c) := fun g => by
    unfold mine slotP; rw [peer_stepAt, Cube.flip_flip]
  unfold offer barPay; rw [h, h, h]

theorem signal {α : Type} {Q : α → sProp 𝕄} (c : Dev nD) (j : Fin 3) (n : Dev nD) (hn : n = flip j c) (O₀ O : CellTallies nD τ sig Unit)
    (hO : O₀ = O + tallyAt (barC (flip j c)) () 1) {kk : PUnit → Prog (TpuEff nD τ sig (Elt F) Λ₀ .tc) α} :
    iprop(known D K ∗ Ow c O₀ ∗ dutyTok ER (barC (flip j c)) 0 j ∗ offer c j)
      ⊢ iprop((Ow c O -∗ exec c (kk ⟨⟩) Q) -∗ exec c (.op (.semSignal (n, .tc) barS (1#32).toInt) kk) Q) := by
  subst hn
  rw [offer_eq c j]
  unfold Ow
  iintro ⟨#HK, ⟨%W, HO⟩, Ht, Hs⟩ Hk
  ihave ⟨#HI, #HR, -⟩ := (known_cell D K (flip j c, .inl ())) $$ HK
  iapply (Rounds.wp_signal Variants.none ER (sched D) (c : Thread nD τ) none (dst := (flip j c : Thread nD τ)) (sem := barS) (r := 0) (d := j) (k' := 1)
      (by rw [duties_bar]; exact Finset.mem_univ j) rfl () O hO (W := W)) $$ [HO Ht Hs]
  · isplitr; · iexact HI
    isplitl [HO]; · iexact HO
    isplitl [Ht]; · iexact Ht
    isplitl [Hs]; · iapply (Entails.of_eq (show barPay (Cube.flip j c) j = (sched D).payload (barC (Cube.flip j c)) 0 j from rfl)); iexact Hs
    iexact HR
  iintro HO
  iapply Hk
  iexists W; iexact HO

theorem barrier {α : Type} {Q : α → sProp 𝕄} (c : Dev nD) {kk : PUnit → Prog (TpuEff nD τ sig (Elt F) Λ₀ .tc) α} :
    iprop(known D K ∗ Ow c (left c 18) ∗ cred (tallyAt (barC c) () 3) ∗ atPos ER (barC c) 0 ∅ 0)
      ⊢ iprop(((Ow c (left c 18) ∗ semVal (barC c) 0 ∗ barPay c 0 ∗ barPay c 1 ∗ barPay c 2) -∗ exec c (kk ⟨⟩) Q)
          -∗ exec c (.op (.semWait barS (3#32).toInt) kk) Q) := by
  unfold Ow
  iintro ⟨#HK, ⟨%W, HO⟩, Hc, Ha⟩ Hk
  ihave ⟨#HI, -, #Hlev⟩ := (known_cell D K (c, .inl ())) $$ HK
  iapply (Rounds.wp_wait_rest_token Variants.none ER (sched D) (c : Thread nD τ) none (wpE_semWait_eq Variants.none (c : Thread nD τ) none Set.univ)
      (Set.mem_univ _) () (O := left c 18) (W := W) (R := 0) (m := 0) (T := ∅) (by rw [Nat.zero_add, expect_bar]; rfl)) $$ [Hc HO Ha]
  · isplitr; · iexact HI
    isplitl [Hc]; · iexact Hc
    isplitl [HO]; · iexact HO
    isplitr
    · iapply (mayWait_left (F := F) c (.reg barS) 18 1 (le_refl 1) fun j _ => by omega)
      iexact Hlev
    iexact Ha
  iintro ⟨HO, Ha, -, Hp⟩
  imod (Rounds.cell_close ER (sched D) (Set.mem_univ (K (c, .inl ()))) (fun h => h) (duties_later D (barC c))) $$ [Ha] with Hz
  · isplitr; · iexact HI
    iexact Ha
  iapply Hk
  isplitl [HO]; · iexists _; iexact HO
  isplitl [Hz]; · iexact Hz
  iapply (Entails.of_eq (rest_bar D c)); iexact Hp

end Cert.Exchange
-- ==== Proof.Stages.lean ====
/-
  A step of the kernel: its three groups' copies start one after another, then each is waited for and used. Stated for
  every reducing step at once, and for every gathering step at once.
-/
module

public import proofs.«01_k».proof.Proof.Steps

@[expose] public section

noncomputable section

namespace Cert.Exchange

open Cert.KernelIdeal Cert.KernelIdeal.Gen Cert.Cube
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Body" => Prog (TpuEff nD τ sig (Elt F) Λ₀ Proc.tc)

variable (D : Dev nD → S768x768.Idx → Elt F .f32) (K : Dev nD × Cell → ℕ) (s : Fin 6) (c : Dev nD)

/-- One assertion for each of the three groups. -/
abbrev each (P : Fin 3 → sProp 𝕄) : sProp 𝕄 := iprop(P 0 ∗ P 1 ∗ P 2)

/-- A reducing copy of group `g`, as the program writes it. -/
abbrev sendUp (g : Fin 3) (s : Fin 6) {m : ℕ} (n : Dev nD) (a b : Fin 2 → ℕ) (ia : ∀ i, a i + (Sn m).size i ≤ S768x768.size i) (ib : ∀ i, b i + (Sn m).size i ≤ S672x768.size i)
    (hx : (oM.slice (Rect.unit (s := S768x768) a (Sn m).size ia) (fun _ => rfl)).view.WordExact)
    (hy : (DmaTarget.remote (p := Proc.tc) (Dev.tc n : Thread nD τ) (rM.slice (Rect.unit (s := S672x768) b (Sn m).size ib) (fun _ => rfl)) (SemLoc.dma (sendS g s)) rfl).view.WordExact)
    (hsem : DmaTarget.Typed Space.vmem (SemLoc.dma (recvS g s))
      (DmaTarget.remote (p := Proc.tc) (Dev.tc n : Thread nD τ) (rM.slice (Rect.unit (s := S672x768) b (Sn m).size ib) (fun _ => rfl)) (SemLoc.dma (sendS g s)) rfl)) : TpuEff nD τ sig (Elt F) Λ₀ Proc.tc PUnit :=
  .enqueueDma (oM.slice (Rect.unit (s := S768x768) a (Sn m).size ia) (fun _ => rfl))
    (.remote (Dev.tc n : Thread nD τ) (rM.slice (Rect.unit (s := S672x768) b (Sn m).size ib) (fun _ => rfl)) (.dma (sendS g s)) rfl)
    (.dma (recvS g s)) hx hy hsem

/-- A gathering copy of group `g`, as the program writes it. -/
abbrev sendDown (g : Fin 3) (s : Fin 6) {m : ℕ} (n : Dev nD) (a : Fin 2 → ℕ) (ia ib : ∀ i, a i + (Sn m).size i ≤ S768x768.size i)
    (hx : (oM.slice (Rect.unit (s := S768x768) a (Sn m).size ia) (fun _ => rfl)).view.WordExact)
    (hy : (DmaTarget.remote (p := Proc.tc) (Dev.tc n : Thread nD τ) (oM.slice (Rect.unit (s := S768x768) a (Sn m).size ib) (fun _ => rfl)) (SemLoc.dma (sendS g s)) rfl).view.WordExact)
    (hsem : DmaTarget.Typed Space.vmem (SemLoc.dma (recvS g s))
      (DmaTarget.remote (p := Proc.tc) (Dev.tc n : Thread nD τ) (oM.slice (Rect.unit (s := S768x768) a (Sn m).size ib) (fun _ => rfl)) (SemLoc.dma (sendS g s)) rfl)) : TpuEff nD τ sig (Elt F) Λ₀ Proc.tc PUnit :=
  .enqueueDma (oM.slice (Rect.unit (s := S768x768) a (Sn m).size ia) (fun _ => rfl))
    (.remote (Dev.tc n : Thread nD τ) (oM.slice (Rect.unit (s := S768x768) a (Sn m).size ib) (fun _ => rfl)) (.dma (sendS g s)) rfl)
    (.dma (recvS g s)) hx hy hsem

/-- A wait for the sending (the receiving) cell of group `g`. -/
def SendWait (g : Fin 3) (s : Fin 6) (c : Dev nD) (w : TpuEff nD τ sig (Elt F) Λ₀ Proc.tc PUnit) : Prop :=
  ∀ P : PUnit → sProp 𝕄, wpE (defs₀ (F := F)) Variants.none (c : Thread nD τ) none Set.univ w P
    = waitSpec (c : Thread nD τ) Set.univ (.dma (sendS g s)) (cr (cnt s)) P
def RecvWait (g : Fin 3) (s : Fin 6) (c : Dev nD) (w : TpuEff nD τ sig (Elt F) Λ₀ Proc.tc PUnit) : Prop :=
  ∀ P : PUnit → sProp 𝕄, wpE (defs₀ (F := F)) Variants.none (c : Thread nD τ) none Set.univ w P
    = waitSpec (c : Thread nD τ) Set.univ (.dma (recvS g s)) (cr (cnt s)) P

/-- What a group waits for and adds in a reducing step, as the program writes it. -/
abbrev takeIn {α : Type} {m : ℕ} (w w' : TpuEff nD τ sig (Elt F) Λ₀ Proc.tc PUnit) (a b : Fin 2 → ℕ)
    (pay : ((Sn m).Idx → Elt F .f32) → ((Sn m).Idx → Elt F .f32) → (Sn m).Idx → Elt F .f32) (ia : ∀ i, a i + (Sn m).size i ≤ S768x768.size i) (ib : ∀ i, b i + (Sn m).size i ≤ S672x768.size i)
    (hl : oM.view.LoadsAt (Rect.unit (s := S768x768) a (Sn m).size ia).toLoadRect) (hl' : rM.view.LoadsAt (Rect.unit (s := S672x768) b (Sn m).size ib).toLoadRect)
    (hl'' : oM.view.LoadsAt (Rect.unit (s := S768x768) a (Sn m).size ia).toLoadRect)
    (hx : (oM.access (Rect.unit (s := S768x768) a (Sn m).size ia)).Stores Finset.univ)
    (hy : (Finset.univ : Finset (Sn m).Idx) = Finset.univ ∨ ∀ i, (Rect.unit (s := S768x768) a (Sn m).size ia).stride i = 1)
    (kk : PUnit → Body α) : Body α :=
  .op w fun _ => .op w' fun _ =>
    .op (.load oM (Rect.unit (s := S768x768) a (Sn m).size ia).toLoadRect hl) fun v =>
    .op (.load rM (Rect.unit (s := S672x768) b (Sn m).size ib).toLoadRect hl') fun u =>
    .op (.load oM (Rect.unit (s := S768x768) a (Sn m).size ia).toLoadRect hl'') fun _ =>
    .op (.store oM (Rect.unit (s := S768x768) a (Sn m).size ia) (pay v u) Finset.univ hx hy) kk

/-- What the program's text gives at group `g` of a step: the copy's destination and rows. -/
structure Sends (g : Fin 3) (s : Fin 6) (c n : Dev nD) (a : Fin 2 → ℕ) (k : ℕ) : Prop where
  dest : n = peer g s c
  rows : a = at0 (src g s c)
  debt : left c (k + 1) = left c k + tallyAt (recvC g s (peer g s c)) () (cr (cnt s))

/-- A step that reduces. -/
theorem reduce_stage {α : Type} {Q : α → sProp 𝕄} (hs : s.val < 3) (k : ℕ) (hk : ∀ j < k, s.val < (cs j).val) {m : ℕ} (hm : m = cnt s)
    {n₀ n₁ n₂ : Dev nD} {a₀ a₁ a₂ b₀ b₁ b₂ e₀ e₁ e₂ : Fin 2 → ℕ} {w₀ w₀' w₁ w₁' w₂ w₂' : TpuEff nD τ sig (Elt F) Λ₀ Proc.tc PUnit}
    {pay₀ pay₁ pay₂ : ((Sn m).Idx → Elt F .f32) → ((Sn m).Idx → Elt F .f32) → (Sn m).Idx → Elt F .f32}
    (S₀ : Sends 0 s c n₀ a₀ (k + 2)) (S₁ : Sends 1 s c n₁ a₁ (k + 1)) (S₂ : Sends 2 s c n₂ a₂ k)
    (hb₀ : b₀ = at0 (slot 0 s)) (hb₁ : b₁ = at0 (slot 1 s)) (hb₂ : b₂ = at0 (slot 2 s))
    (he₀ : e₀ = at0 (base 0 (lev s) c)) (he₁ : e₁ = at0 (base 1 (lev s) c)) (he₂ : e₂ = at0 (base 2 (lev s) c))
    (hw₀ : SendWait 0 s c w₀) (hw₀' : RecvWait 0 s c w₀') (hw₁ : SendWait 1 s c w₁) (hw₁' : RecvWait 1 s c w₁')
    (hw₂ : SendWait 2 s c w₂) (hw₂' : RecvWait 2 s c w₂')
    (hp₀ : ∀ v u j, pay₀ v u j = FloatOps.addf (φ := .f32) (v j) (u j)) (hp₁ : ∀ v u j, pay₁ v u j = FloatOps.addf (φ := .f32) (v j) (u j))
    (hp₂ : ∀ v u j, pay₂ v u j = FloatOps.addf (φ := .f32) (v j) (u j))
    {ia₀ ib₀ hx₀ hy₀ hs₀ ia₁ ib₁ hx₁ hy₁ hs₁ ia₂ ib₂ hx₂ hy₂ hs₂ ja₀ jb₀ p₀ q₀ r₀ t₀ u₀ ja₁ jb₁ p₁ q₁ r₁ t₁ u₁ ja₂ jb₂ p₂ q₂ r₂ t₂ u₂}
    {kk : PUnit → Body α} :
    iprop(known D K ∗ Ow c (left c (k + 3)) ∗ each (fun g => ready g s c) ∗ each (fun g => reduced D g (dep s) c) ∗ each (fun g => slotP g s c))
      ⊢ iprop(((Ow c (left c k) ∗ each (fun g => done g s c) ∗ each (fun g => reduced D g (lev s) c) ∗ each (fun g => mine g s c) ∗ each (fun g => lent g (dep s) c))
              -∗ exec c (kk ⟨⟩) Q)
          -∗ exec c (.op (sendUp (m := m) 0 s n₀ a₀ b₀ ia₀ ib₀ hx₀ hy₀ hs₀) fun _ => .op (sendUp (m := m) 1 s n₁ a₁ b₁ ia₁ ib₁ hx₁ hy₁ hs₁) fun _ =>
              .op (sendUp (m := m) 2 s n₂ a₂ b₂ ia₂ ib₂ hx₂ hy₂ hs₂) fun _ =>
              takeIn (m := m) w₀ w₀' e₀ b₀ pay₀ ja₀ jb₀ p₀ q₀ r₀ t₀ u₀ fun _ => takeIn (m := m) w₁ w₁' e₁ b₁ pay₁ ja₁ jb₁ p₁ q₁ r₁ t₁ u₁ fun _ =>
              takeIn (m := m) w₂ w₂' e₂ b₂ pay₂ ja₂ jb₂ p₂ q₂ r₂ t₂ u₂ kk) Q) := by
  dsimp only [each]
  iintro ⟨#HK, HO, ⟨R0, R1, R2⟩, ⟨B0, B1, B2⟩, S0, S1, S2⟩ Hk
  iapply (reduce_start D K 0 s c hs n₀ S₀.dest hm (k + 2) S₀.debt S₀.rows hb₀) $$ [HO R0 B0 S0]
  · iframe # ∗
  iintro ⟨HO, R0, B0⟩
  iapply (reduce_start D K 1 s c hs n₁ S₁.dest hm (k + 1) S₁.debt S₁.rows hb₁) $$ [HO R1 B1 S1]
  · iframe # ∗
  iintro ⟨HO, R1, B1⟩
  iapply (reduce_start D K 2 s c hs n₂ S₂.dest hm k S₂.debt S₂.rows hb₂) $$ [HO R2 B2 S2]
  · iframe # ∗
  iintro ⟨HO, R2, B2⟩
  iapply (reduce_finish D K 0 s c hs k hk rfl hw₀ hw₀' hm he₀ hb₀ pay₀ hp₀) $$ [HO R0 B0]
  · iframe # ∗
  iintro ⟨HO, D0, B0, M0, L0⟩
  iapply (reduce_finish D K 1 s c hs k hk rfl hw₁ hw₁' hm he₁ hb₁ pay₁ hp₁) $$ [HO R1 B1]
  · iframe # ∗
  iintro ⟨HO, D1, B1, M1, L1⟩
  iapply (reduce_finish D K 2 s c hs k hk rfl hw₂ hw₂' hm he₂ hb₂ pay₂ hp₂) $$ [HO R2 B2]
  · iframe # ∗
  iintro ⟨HO, D2, B2, M2, L2⟩
  iapply Hk
  iframe ∗

/-- A step that gathers. -/
theorem gather_stage {α : Type} {Q : α → sProp 𝕄} (hs : ¬ s.val < 3) (k : ℕ) (hk : ∀ j < k, s.val < (cs j).val) {m : ℕ} (hm : m = cnt s)
    {n₀ n₁ n₂ : Dev nD} {a₀ a₁ a₂ : Fin 2 → ℕ} {w₀ w₀' w₁ w₁' w₂ w₂' : TpuEff nD τ sig (Elt F) Λ₀ Proc.tc PUnit}
    (S₀ : Sends 0 s c n₀ a₀ (k + 2)) (S₁ : Sends 1 s c n₁ a₁ (k + 1)) (S₂ : Sends 2 s c n₂ a₂ k)
    (hw₀ : SendWait 0 s c w₀) (hw₀' : RecvWait 0 s c w₀') (hw₁ : SendWait 1 s c w₁) (hw₁' : RecvWait 1 s c w₁')
    (hw₂ : SendWait 2 s c w₂) (hw₂' : RecvWait 2 s c w₂')
    {ia₀ ib₀ hx₀ hy₀ hs₀ ia₁ ib₁ hx₁ hy₁ hs₁ ia₂ ib₂ hx₂ hy₂ hs₂}
    {kk : PUnit → Body α} :
    iprop(known D K ∗ Ow c (left c (k + 3)) ∗ each (fun g => ready g s c) ∗ each (fun g => gathered D g (lev s) c) ∗ each (fun g => lent g (dep s) c))
      ⊢ iprop(((Ow c (left c k) ∗ each (fun g => done g s c) ∗ each (fun g => gathered D g (dep s) c)) -∗ exec c (kk ⟨⟩) Q)
          -∗ exec c (.op (sendDown (m := m) 0 s n₀ a₀ ia₀ ib₀ hx₀ hy₀ hs₀) fun _ => .op (sendDown (m := m) 1 s n₁ a₁ ia₁ ib₁ hx₁ hy₁ hs₁) fun _ =>
              .op (sendDown (m := m) 2 s n₂ a₂ ia₂ ib₂ hx₂ hy₂ hs₂) fun _ =>
              .op w₀ fun _ => .op w₀' fun _ => .op w₁ fun _ => .op w₁' fun _ => .op w₂ fun _ => .op w₂' kk) Q) := by
  dsimp only [each]
  iintro ⟨#HK, HO, ⟨R0, R1, R2⟩, ⟨B0, B1, B2⟩, S0, S1, S2⟩ Hk
  iapply (gather_start D K 0 s c hs n₀ S₀.dest hm (k + 2) S₀.debt S₀.rows) $$ [HO R0 B0 S0]
  · iframe # ∗
  iintro ⟨HO, R0⟩
  iapply (gather_start D K 1 s c hs n₁ S₁.dest hm (k + 1) S₁.debt S₁.rows) $$ [HO R1 B1 S1]
  · iframe # ∗
  iintro ⟨HO, R1⟩
  iapply (gather_start D K 2 s c hs n₂ S₂.dest hm k S₂.debt S₂.rows) $$ [HO R2 B2 S2]
  · iframe # ∗
  iintro ⟨HO, R2⟩
  iapply (gather_finish D K 0 s c hs k hk rfl hw₀ hw₀') $$ [HO R0]
  · iframe # ∗
  iintro ⟨HO, D0, B0⟩
  iapply (gather_finish D K 1 s c hs k hk rfl hw₁ hw₁') $$ [HO R1]
  · iframe # ∗
  iintro ⟨HO, D1, B1⟩
  iapply (gather_finish D K 2 s c hs k hk rfl hw₂ hw₂') $$ [HO R2]
  · iframe # ∗
  iintro ⟨HO, D2, B2⟩
  iapply Hk
  iframe ∗

end Cert.Exchange
-- ==== Proof.Body.lean ====
/-
  One device's run of the kernel's body: the product of its own blocks, the barrier, the three reducing and the three
  gathering steps.
-/
module

public import proofs.«01_k».proof.Proof.Stages
import Mathlib.Tactic.FinCases
public import proofs.«01_k».proof.Proof.Gen.KernelIdeal.Launch
public import proofs.«01_k».proof.Proof.Gen.KernelIdeal.Skeleton

@[expose] public section

noncomputable section

namespace Cert.Exchange

open Cert.KernelIdeal Cert.KernelIdeal.Gen Cert.Cube
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The two buffers, whole and in pieces -/

theorem slots (g : Fin 3) (c : Dev nD) (f : S672x768.Idx → Elt F .f32) :
    scrP c (224 * g.val) 224 f ⊢ iprop(mine g 0 c ∗ mine g 1 c ∗ mine g 2 c) := by
  iintro H
  ihave ⟨H0, H⟩ := (scrP_append c (224 * g.val) 128 96 f).1 $$ H
  ihave ⟨H1, H2⟩ := (scrP_append c (224 * g.val + 128) 64 32 f).1 $$ H
  unfold mine
  isplitl [H0]; · iexists f; iexact H0
  isplitl [H1]; · iexists f; iexact H1
  iexists f; iexact H2

theorem unslots (g : Fin 3) (c : Dev nD) : iprop(mine (F := F) g 0 c ∗ mine (F := F) g 1 c ∗ mine (F := F) g 2 c) ⊢ iprop(∃ f, scrP c (224 * g.val) 224 f) := by
  unfold mine
  iintro ⟨⟨%f0, H0⟩, ⟨%f1, H1⟩, ⟨%f2, H2⟩⟩
  ihave ⟨%h, H⟩ := (scrP_join c (224 * g.val + 128) 64 32 f1 f2) $$ [H1 H2]
  · isplitl [H1]; · iexact H1
    iexact H2
  iapply (scrP_join c (224 * g.val) 128 96 f0 h)
  isplitl [H0]; · iexact H0
  iexact H

theorem scr_split (c : Dev nD) (f : S672x768.Idx → Elt F .f32) :
    (((c : Thread nD τ).loc cc0_scratch0) ↦{fullShare} f : sProp 𝕄)
      ⊢ each fun g => iprop(mine g 0 c ∗ mine g 1 c ∗ mine g 2 c) := by
  iintro H
  ihave H : scrP c 0 672 f $$ [H]
  · unfold scrP; rw [rows_all]; iexact H
  ihave ⟨H0, H⟩ := (scrP_append c 0 224 448 f).1 $$ H
  ihave ⟨H1, H2⟩ := (scrP_append c 224 224 224 f).1 $$ H
  isplitl [H0]; · iapply (slots 0 c f); iexact H0
  isplitl [H1]; · iapply (slots 1 c f); iexact H1
  iapply (slots 2 c f); iexact H2

theorem scr_unsplit (c : Dev nD) :
    (each fun g => iprop(mine (F := F) g 0 c ∗ mine (F := F) g 1 c ∗ mine (F := F) g 2 c))
      ⊢ iprop(∃ f, (((c : Thread nD τ).loc cc0_scratch0) ↦{fullShare} f : sProp 𝕄)) := by
  dsimp only [each]
  iintro ⟨H0, H1, H2⟩
  ihave ⟨%f0, H0⟩ := (unslots 0 c) $$ H0
  ihave ⟨%f1, H1⟩ := (unslots 1 c) $$ H1
  ihave ⟨%f2, H2⟩ := (unslots 2 c) $$ H2
  ihave ⟨%h, H⟩ := (scrP_join c 224 224 224 f1 f2) $$ [H1 H2]
  · isplitl [H1]; · iexact H1
    iexact H2
  ihave ⟨%h', H⟩ := (scrP_join c 0 224 448 f0 h) $$ [H0 H]
  · isplitl [H0]; · iexact H0
    iexact H
  iexists h'
  unfold scrP; rw [rows_all]; iexact H

theorem out_thirds (c : Dev nD) (f : S768x768.Idx → Elt F .f32) :
    (((c : Thread nD τ).loc cc0_stg2_0) ↦{fullShare} f : sProp 𝕄) ⊣⊢ each fun g => outP c (base g 0 c) (len 0) f := by
  have e : (((c : Thread nD τ).loc cc0_stg2_0) ↦{fullShare} f : sProp 𝕄) = outP c 0 (256 + (256 + 256)) f := by
    unfold outP; rw [rows_all]
  rw [e]
  exact (outP_append c 0 256 (256 + 256) f).trans ⟨sep_mono_right (outP_append c 256 256 256 f).1, sep_mono_right (outP_append c 256 256 256 f).2⟩

/-! ## What a device starts from, what it ends with -/

variable (m : (ℓ : Loc nD τ sig) → Buf (Elt F) ℓ) (ρ : Dev nD → PrngReg)

/-- A device's columns of the first factor and rows of the second, -/
def left0 (c : Dev nD) : S768x384.Idx → Elt F .f32 := (win0_0.blk (0 : Fin 1)).view.read (Elt F) (m ((c : Thread nD τ).loc main_arg0))
def right0 (c : Dev nD) : S384x768.Idx → Elt F .f32 := (win0_1.blk (0 : Fin 1)).view.read (Elt F) (m ((c : Thread nD τ).loc main_arg1))
/-- and their product. -/
def own0 (c : Dev nD) : S768x768.Idx → Elt F .f32 := k0_pay1 (left0 m c) (right0 m c)

/-- An assertion for every step and group. -/
def every (P : Fin 3 → Fin 6 → sProp 𝕄) : sProp 𝕄 := bigSep Finset.univ fun s : Fin 6 => each fun g => P g s

theorem every_eq (P : Fin 3 → Fin 6 → sProp 𝕄) : every P
    = iprop(each (fun g => P g 0) ∗ each (fun g => P g 1) ∗ each (fun g => P g 2) ∗ each (fun g => P g 3) ∗ each (fun g => P g 4) ∗ each (fun g => P g 5)) :=
  bigSep_univ_eq_bigSepL [0, 1, 2, 3, 4, 5] (by decide) (by decide) _

/-- The tokens of the three barrier units a device pays. -/
def tolls (c : Dev nD) : sProp 𝕄 :=
  iprop(dutyTok ER (barC (Cube.flip 0 c)) 0 0 ∗ dutyTok ER (barC (Cube.flip 1 c)) 0 1 ∗ dutyTok ER (barC (Cube.flip 2 c)) 0 2)

def start (K : Dev nD × Cell → ℕ) (c : Dev nD) : sProp 𝕄 :=
  iprop(known (own0 m) K ∗ tolls c ∗ cred (tallyAt (barC c) () 3) ∗ atPos ER (barC c) 0 ∅ 0 ∗ every fun g s => ready g s c)

def scratch (c : Dev nD) : sProp 𝕄 := iprop(∃ f : S672x768.Idx → Elt F .f32, ((c : Thread nD τ).loc cc0_scratch0) ↦{fullShare} f)

def before (c : Dev nD) : sProp 𝕄 := iprop((∃ K, start m K c) ∗ scratch c)
def after (c : Dev nD) : sProp 𝕄 := iprop(scratch (F := F) c ∗ semVal (barC c) 0 ∗ every fun g s => done g s c)

def dats (_ : Fin 1) (c : Dev nD) : Dat τ (Elt F) Unit ℕ UU ℕ cfg0 c where
  A w := m ((cfg0.win w).arr.view.loc (c : Thread nD τ))
  after w _ := match w with
    | ⟨0, _⟩ => left0 m c
    | ⟨1, _⟩ => right0 m c
    | ⟨2, _⟩ => total (own0 m)
  Φ t := if t.val = 0 then before m c else after c
  q _ := fullShare
  owed t := if t.val = 0 then owed c 3 else 0

theorem fetch0 (t : Fin cfg0.N) : (cfg0.win (0 : Fin 3)).fetch t = true := by rw [fin_N0 t]; rfl
theorem fetch1 (t : Fin cfg0.N) : (cfg0.win (1 : Fin 3)).fetch t = true := by rw [fin_N0 t]; rfl

/-- What the program adds, element by element. -/
theorem sums {t : Shape} (h : t.ShapeCasts t) (v u : t.Idx → Elt F .f32) (j : t.Idx) :
    Idealize.ShloMosaic.addf (F := F) (φ := .f32) (shapeCast t v h) u j = FloatOps.addf (φ := .f32) (v j) (u j) := by
  rw [shapeCast_self]; rfl

section Waits
variable {g : Fin 3} {s : Fin 6} {c : Dev nD} {n : ℕ} (hn : n = cnt s) {a b : Fin 2 → ℕ}
  {ia : ∀ i, a i + (Sn n).size i ≤ S768x768.size i} {ib : ∀ i, b i + (Sn n).size i ≤ S672x768.size i}
include hn

/-- The program's waits name the cell, and rows as many as the copy moves. -/
theorem leaves {sp : Space} {s' : Shape} {e' : EltTy} {from' : Memref sig .tc sp s' e'} {h h'} :
    SendWait (F := F) g s c (.waitDma2 (sendS g s) from' (oM.slice (Rect.unit (s := S768x768) a (Sn n).size ia) (fun _ => rfl)) h h') :=
  fun P => by subst hn; exact wpE_waitDma2_eq Variants.none (c : Thread nD τ) none Set.univ P
theorem comes {sp : Space} {s' : Shape} {e' : EltTy} {from' : Memref sig .tc sp s' e'} {h h'} :
    RecvWait (F := F) g s c (.waitDma2 (recvS g s) from' (rM.slice (Rect.unit (s := S672x768) b (Sn n).size ib) (fun _ => rfl)) h h') :=
  fun P => by subst hn; exact wpE_waitDma2_eq Variants.none (c : Thread nD τ) none Set.univ P
theorem arrives {sp : Space} {s' : Shape} {e' : EltTy} {from' : Memref sig .tc sp s' e'} {h h'} :
    RecvWait (F := F) g s c (.waitDma2 (recvS g s) from' (oM.slice (Rect.unit (s := S768x768) a (Sn n).size ia) (fun _ => rfl)) h h') :=
  fun P => by subst hn; exact wpE_waitDma2_eq Variants.none (c : Thread nD τ) none Set.univ P
end Waits

section Run
variable (K : Dev nD × Cell → ℕ) (c : Dev nD)

def staged (b : Ref sig .tc) (X : b.ty.Contents (Elt F)) : sProp 𝕄 := ((c : Thread nD τ).loc b) ↦{fullShare} X

theorem zeros : (![0, 0] : Fin 2 → ℕ) = fun _ => 0 := funext fun a => by fin_cases a <;> rfl

/-- The first store leaves the product of the device's own blocks. -/
theorem first_product (f : S768x768.Idx → Elt F .f32) :
    (oM.access (Rect.unit (s := S768x768) ![0, 0] S768x768.size inb_S768x768_S768x768_0_0)).write (Elt F) f
      (k0_pay1 ((Memref.whole cc0_stg0_0 : Memref sig .tc .vmem S768x384 .f32).view.readAt (Elt F) (Rect.unit (s := S768x384) ![0, 0] S768x384.size inb_S768x384_S768x384_0_0).toLoadRect (left0 m c))
        ((Memref.whole cc0_stg1_0 : Memref sig .tc .vmem S384x768 .f32).view.readAt (Elt F) (Rect.unit (s := S384x768) ![0, 0] S384x768.size inb_S384x768_S384x768_0_0).toLoadRect (right0 m c)))
      Finset.univ = own0 m c := by
  refine (Memref.write_access_unit_zero_univ (Elt F) cc0_stg2_0 zeros _ f _).trans ?_
  exact congrArg₂ k0_pay1 (Memref.readAt_unit_zero (Elt F) cc0_stg0_0 zeros _ _) (Memref.readAt_unit_zero (Elt F) cc0_stg1_0 zeros _ _)

/-- From the staged blocks to the staged result. -/
theorem run_body (Q : PUnit → sProp 𝕄) (f : S768x768.Idx → Elt F .f32) :
    iprop(start m K c ∗ scratch c ∗ Ow c (owed c 3) ∗ staged c cc0_stg0_0 (left0 m c) ∗ staged c cc0_stg1_0 (right0 m c) ∗ staged c cc0_stg2_0 f)
      ⊢ iprop(((after c ∗ Ow c 0 ∗ staged c cc0_stg0_0 (left0 m c) ∗ staged c cc0_stg1_0 (right0 m c) ∗ staged c cc0_stg2_0 (total (own0 m))) -∗ Q ⟨⟩)
          -∗ exec c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Q) := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel]
  simp only [semSignalWord, semWaitWord, Prog.lift, Prog.bind_op, Prog.bind_ret, Prog.pure_eq_ret, wp_deviceId]
  unfold start tolls staged
  rw [every_eq]
  iintro ⟨⟨#HK, ⟨T0, T1, T2⟩, HC, HA, R0, R1, R2, R3, R4, R5⟩, HM, HO, HX, HY, HZ⟩ Hk
  -- the product of the device's own blocks
  iapply (wp_load Variants.none (c : Thread nD τ) none Set.univ (m := Memref.whole cc0_stg0_0) (Finset.subset_univ _)) $$ HX; iintro HX
  iapply (wp_load Variants.none (c : Thread nD τ) none Set.univ (m := Memref.whole cc0_stg1_0) (Finset.subset_univ _)) $$ HY; iintro HY
  iapply (wp_load Variants.none (c : Thread nD τ) none Set.univ (m := oM) (Finset.subset_univ _)) $$ HZ; iintro HZ
  iapply (wp_store Variants.none (c : Thread nD τ) none Set.univ (m := oM) (r := Rect.unit (s := S768x768) ![0, 0] S768x768.size inb_S768x768_S768x768_0_0) (Mk := Finset.univ) (Finset.subset_univ _)) $$ HZ; iintro HZ
  ihave HZ := (Entails.of_eq (congrArg (fun h => (((c : Thread nD τ).loc cc0_stg2_0) ↦{fullShare} h : sProp 𝕄)) (first_product m c f))) $$ HZ
  -- the barrier: each partner gets the slots it will write to
  unfold scratch
  icases HM with ⟨%f', HM⟩
  ihave ⟨⟨M00, M01, M02⟩, ⟨M10, M11, M12⟩, M20, M21, M22⟩ := (scr_split c f') $$ HM
  iapply (signal (own0 m) K c 0 _ (dev1 c) _ (owed c 2) rfl) $$ [HO T0 M00 M12 M21]
  · isplitr; · iexact HK
    isplitl [HO]; · iexact HO
    isplitl [T0]; · iexact T0
    unfold offer
    isplitl [M00]; · iexact M00
    isplitl [M12]; · iexact M12
    iexact M21
  iintro HO
  iapply (signal (own0 m) K c 1 _ (dev2 c) _ (owed c 1) rfl) $$ [HO T1 M01 M10 M22]
  · isplitr; · iexact HK
    isplitl [HO]; · iexact HO
    isplitl [T1]; · iexact T1
    unfold offer
    isplitl [M01]; · iexact M01
    isplitl [M10]; · iexact M10
    iexact M22
  iintro HO
  iapply (signal (own0 m) K c 2 _ (dev3 c) _ (owed c 0) rfl) $$ [HO T2 M02 M11 M20]
  · isplitr; · iexact HK
    isplitl [HO]; · iexact HO
    isplitl [T2]; · iexact T2
    unfold offer
    isplitl [M02]; · iexact M02
    isplitl [M11]; · iexact M11
    iexact M20
  iintro HO
  iapply (barrier (own0 m) K c) $$ [HO HC HA]
  · isplitr; · iexact HK
    isplitl [HO]; · iexact HO
    isplitl [HC]; · iexact HC
    iexact HA
  unfold barPay
  iintro ⟨HO, HB, ⟨P00, P12, P21⟩, ⟨P01, P10, P22⟩, P02, P11, P20⟩
  -- the six steps
  ihave HZ := (out_thirds c (own0 m c)).1 $$ HZ
  iapply (reduce_stage (own0 m) K 0 c (by decide) 15 (by decide) (m := 128) (pay₀ := k0_pay2) (pay₁ := k0_pay3) (pay₂ := k0_pay4) rfl ⟨dev4 c, off1 c, rfl⟩ ⟨dev5 c, off1_b c, rfl⟩ ⟨dev6 c, off2 c, rfl⟩
      rfl rfl rfl (off3 c) (off3_b c) (off4 c) (leaves rfl) (comes rfl) (leaves rfl) (comes rfl) (leaves rfl) (comes rfl)
      (sums _) (sums _) (sums _)) $$ [HO R0 HZ P00 P10 P20]
  · isplitr; · iexact HK
    isplitl [HO]; · iexact HO
    isplitl [R0]; · iexact R0
    isplitl [HZ]; · iexact HZ
    isplitl [P00]; · iexact P00
    isplitl [P10]; · iexact P10
    iexact P20
  iintro ⟨HO, D0, HZ, ⟨N00, N10, N20⟩, L0⟩
  iapply (reduce_stage (own0 m) K 1 c (by decide) 12 (by decide) (m := 64) (pay₀ := k0_pay5) (pay₁ := k0_pay6) (pay₂ := k0_pay7) rfl ⟨dev7 c, off5 c, rfl⟩ ⟨dev8 c, off6 c, rfl⟩ ⟨dev9 c, off7 c, rfl⟩
      rfl rfl rfl (off8 c) (off9 c) (off10 c) (leaves rfl) (comes rfl) (leaves rfl) (comes rfl) (leaves rfl) (comes rfl)
      (sums _) (sums _) (sums _)) $$ [HO R1 HZ P01 P11 P21]
  · isplitr; · iexact HK
    isplitl [HO]; · iexact HO
    isplitl [R1]; · iexact R1
    isplitl [HZ]; · iexact HZ
    isplitl [P01]; · iexact P01
    isplitl [P11]; · iexact P11
    iexact P21
  iintro ⟨HO, D1, HZ, ⟨N01, N11, N21⟩, L1⟩
  iapply (reduce_stage (own0 m) K 2 c (by decide) 9 (by decide) (m := 32) (pay₀ := k0_pay8) (pay₁ := k0_pay9) (pay₂ := k0_pay10) rfl ⟨dev10 c, off11 c, rfl⟩ ⟨dev11 c, off12 c, rfl⟩ ⟨dev12 c, off13 c, rfl⟩
      rfl rfl rfl (off14 c) (off15 c) (off16 c) (leaves rfl) (comes rfl) (leaves rfl) (comes rfl) (leaves rfl) (comes rfl)
      (sums _) (sums _) (sums _)) $$ [HO R2 HZ P02 P12 P22]
  · isplitr; · iexact HK
    isplitl [HO]; · iexact HO
    isplitl [R2]; · iexact R2
    isplitl [HZ]; · iexact HZ
    isplitl [P02]; · iexact P02
    isplitl [P12]; · iexact P12
    iexact P22
  iintro ⟨HO, D2, HZ, ⟨N02, N12, N22⟩, L2⟩
  ihave HZ := (Entails.of_eq (show each (fun g => reduced (own0 m) g (lev 2) c) = each (fun g => gathered (own0 m) g 3 c) from
    congrArg each (funext fun g => reduced_three (own0 m) g c))) $$ HZ
  iapply (gather_stage (own0 m) K 3 c (by decide) 6 (by decide) (m := 32) rfl ⟨dev13 c, off17 c, rfl⟩ ⟨dev14 c, off18 c, rfl⟩ ⟨dev15 c, off19 c, rfl⟩
      (leaves rfl) (arrives rfl) (leaves rfl) (arrives rfl) (leaves rfl) (arrives rfl)) $$ [HO R3 HZ L2]
  · isplitr; · iexact HK
    isplitl [HO]; · iexact HO
    isplitl [R3]; · iexact R3
    isplitl [HZ]; · iexact HZ
    iexact L2
  iintro ⟨HO, D3, HZ⟩
  iapply (gather_stage (own0 m) K 4 c (by decide) 3 (by decide) (m := 64) rfl ⟨dev16 c, off20 c, rfl⟩ ⟨dev17 c, off21 c, rfl⟩ ⟨dev18 c, off22 c, rfl⟩
      (leaves rfl) (arrives rfl) (leaves rfl) (arrives rfl) (leaves rfl) (arrives rfl)) $$ [HO R4 HZ L1]
  · isplitr; · iexact HK
    isplitl [HO]; · iexact HO
    isplitl [R4]; · iexact R4
    isplitl [HZ]; · iexact HZ
    iexact L1
  iintro ⟨HO, D4, HZ⟩
  iapply (gather_stage (own0 m) K 5 c (by decide) 0 (by decide) (m := 128) rfl ⟨dev19 c, off23 c, rfl⟩ ⟨dev20 c, off24 c, rfl⟩ ⟨dev21 c, off25 c, rfl⟩
      (leaves rfl) (arrives rfl) (leaves rfl) (arrives rfl) (leaves rfl) (arrives rfl)) $$ [HO R5 HZ L0]
  · isplitr; · iexact HK
    isplitl [HO]; · iexact HO
    isplitl [R5]; · iexact R5
    isplitl [HZ]; · iexact HZ
    iexact L0
  iintro ⟨HO, D5, HZ⟩
  dsimp only [exec]
  rw [wp_ret]; imodintro
  iapply Hk
  unfold after scratch
  rw [every_eq]
  isplitl [HB D0 D1 D2 D3 D4 D5 N00 N01 N02 N10 N11 N12 N20 N21 N22]
  · isplitl [N00 N01 N02 N10 N11 N12 N20 N21 N22]
    · iapply (scr_unsplit c)
      dsimp only [each]
      iframe ∗
    iframe ∗
  isplitl [HO]; · iexact HO
  isplitl [HX]; · iexact HX
  isplitl [HY]; · iexact HY
  iapply (out_thirds c (total (own0 m))).2
  iexact HZ

end Run

/-! ## The same, in the launch's terms -/

set_option maxRecDepth 65536 in
theorem sound (c : Dev nD) : BodyObligation (dats (F := F) m 0 c) (defs₀ (F := F)) Variants.none () Set.univ := fun t => by
  rw [fin_N0 t, bigSep_W0, bigSep_W0]
  simp only [owns_whole_eq]
  show iprop(before m c ∗ (dats m 0 c).owesAt () t0_0.castSucc
      ∗ (∃ d, ∃ f, ⌜f = (dats m 0 c).before (0 : Fin 3) t0_0 d⌝ ∗ staged c cc0_stg0_0 f)
      ∗ (∃ d, ∃ f, ⌜f = (dats m 0 c).before (1 : Fin 3) t0_0 d⌝ ∗ staged c cc0_stg1_0 f)
      ∗ (∃ d, ∃ f, ⌜f = (dats m 0 c).before (2 : Fin 3) t0_0 d⌝ ∗ staged c cc0_stg2_0 f))
    ⊢ exec c (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2)
      fun _ => iprop(after c ∗ (dats m 0 c).owesAt () t0_0.succ
        ∗ (∃ f, ⌜f = left0 m c⌝ ∗ staged c cc0_stg0_0 f) ∗ (∃ f, ⌜f = right0 m c⌝ ∗ staged c cc0_stg1_0 f)
        ∗ ∃ f, ⌜f = total (own0 m)⌝ ∗ staged c cc0_stg2_0 f)
  unfold before Dat.owesAt Pipeline.owesWithin
  iintro ⟨⟨⟨%K, Hs⟩, Hm⟩, ⟨%W, -, HO⟩, ⟨%d0, %f0, %h0, HX⟩, ⟨%d1, %f1, %h1, HY⟩, ⟨%d2, %f2, -, HZ⟩⟩
  have e0 : f0 = left0 m c := by rw [h0]; unfold Dat.before; rw [if_pos (fetch0 t0_0)]; rfl
  have e1 : f1 = right0 m c := by rw [h1]; unfold Dat.before; rw [if_pos (fetch1 t0_0)]; rfl
  subst e0 e1
  iapply (run_body m K c _ f2) $$ [Hs Hm HO HX HY HZ]
  · isplitl [Hs]; · iexact Hs
    isplitl [Hm]; · iexact Hm
    isplitl [HO]; · unfold Ow; iexists W; iexact HO
    isplitl [HX]; · iexact HX
    isplitl [HY]; · iexact HY
    iexact HZ
  unfold Ow
  iintro ⟨Ha, ⟨%W', HO⟩, HX, HY, HZ⟩
  isplitl [Ha]; · iexact Ha
  isplitl [HO]
  · iexists W'
    isplitr; · ipureintro; exact fun _ _ => Or.inl trivial
    iexact HO
  isplitl [HX]
  · iexists _; isplitr; · ipureintro; rfl
    iexact HX
  isplitl [HY]
  · iexists _; isplitr; · ipureintro; rfl
    iexact HY
  iexists _; isplitr; · ipureintro; rfl
  iexact HZ

end Cert.Exchange
-- ==== Proof.Launch.lean ====
/-
  The launch: every device's cells opened at once, the tokens handed to the devices that pay with them, and what a run of
  the whole program leaves behind.
-/
module

public import proofs.«01_k».proof.Proof.Body
public import Idealize.ShloMosaic.Lib.Pipeline.CollectiveSegs
public import Idealize.ShloMosaic.Lib.SparseCore.Launch
import Mathlib.Tactic.FinCases

@[expose] public section

noncomputable section

namespace Cert.Exchange

open Cert.KernelIdeal Cert.KernelIdeal.Gen Cert.Cube
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- A copy: its group and its step. -/
abbrev Copy : Type := Fin 3 × Fin 6

/-- The kernel's own semaphores: each copy's departure and its arrival. -/
def osem (x : Copy ⊕ Copy) : SemLoc sig := cellS (.inr x)

set_option maxRecDepth 65536 in
theorem osem_facts : Pipeline.OwnSemFacts cfg0.spec osem := by decide

theorem cellS_inj : Function.Injective cellS := by decide

theorem cell_inj : Function.Injective cell := fun x y h =>
  Prod.ext (congrArg (fun g : GSem nD τ sig => g.1.1) h) (cellS_inj (congrArg Prod.snd h))

def allCells : Finset (GSem nD τ sig) := Finset.univ.map ⟨cell, cell_inj⟩

/-- The payments due at a device's cells: three units at its barrier, one copy at each of the others. -/
abbrev Due : Type := Fin 3 ⊕ Copy ⊕ Copy

def token (x : Dev nD × Due) : GSem nD τ sig × ℕ × Fin 3 := match x.2 with
  | .inl j => (barC x.1, 0, j)
  | .inr i => (cell (x.1, .inr i), 0, 0)

theorem token_inj : Function.Injective token := by
  rintro ⟨c, i⟩ ⟨d, j⟩ h
  rcases i with i | i <;> rcases j with j | j
  · have hc : c = d := congrArg (fun x : GSem nD τ sig × ℕ × Fin 3 => x.1.1.1) h
    have hj : i = j := congrArg (fun x : GSem nD τ sig × ℕ × Fin 3 => x.2.2) h
    rw [hc, hj]
  · have := cell_inj (a₁ := (c, .inl ())) (a₂ := (d, .inr j)) (congrArg Prod.fst h)
    cases congrArg Prod.snd this
  · have := cell_inj (a₁ := (c, .inr i)) (a₂ := (d, .inl ())) (congrArg Prod.fst h)
    cases congrArg Prod.snd this
  · have := cell_inj (a₁ := (c, .inr i)) (a₂ := (d, .inr j)) (congrArg Prod.fst h)
    cases this; rfl

def allTokens : Finset (GSem nD τ sig × ℕ × Fin 3) := Finset.univ.map ⟨token, token_inj⟩

/-- What the run starts from beside the memory. -/
def seed : UU := (initOf (Pipeline.cells cfgs cellOf_inj) (Pipeline.launchToks cfgs cellOf_inj), initOf allCells allTokens)

/-! ## Opening the cells -/

theorem over_sum {A B : Type} [Fintype A] [Fintype B] (Φ : A ⊕ B → sProp 𝕄) :
    bigSep Finset.univ Φ = iprop(bigSep Finset.univ (fun a => Φ (.inl a)) ∗ bigSep Finset.univ fun b => Φ (.inr b)) := BI.bigSep_univ_sum Φ

theorem over_three (Φ : Fin 3 → sProp 𝕄) : bigSep Finset.univ Φ = iprop(Φ 0 ∗ Φ 1 ∗ Φ 2) :=
  bigSep_univ_eq_bigSepL [0, 1, 2] (by decide) (by decide) Φ

abbrev tokenP (x : Dev nD × Due) : sProp 𝕄 := dutyTok ER (token x).1 (token x).2.1 (token x).2.2

/-- What a device is dealt. -/
def dealt (c : Dev nD) : sProp 𝕄 :=
  iprop((bigSep Finset.univ fun i : Cell => roundState ER (sched (own0 m)) (cell (c, i)) 0)
    ∗ (bigSep Finset.univ fun i : Cell => atPos ER (cell (c, i)) 0 ∅ 0)
    ∗ (bigSep Finset.univ fun i : Cell => reached ER (cell (c, i)) 0)
    ∗ bigSep Finset.univ fun i : Due => tokenP (F := F) (c, i))

theorem over_cells (Φ : GSem nD τ sig → sProp 𝕄) :
    bigSep allCells Φ = bigSep Finset.univ fun c : Dev nD => bigSep Finset.univ fun i : Cell => Φ (cell (c, i)) := by
  unfold allCells; rw [bigSep_map, bigSep_univ_prod]; rfl

theorem over_tokens : bigSep allTokens (fun x => (dutyTok ER x.1 x.2.1 x.2.2 : sProp 𝕄))
    = bigSep Finset.univ fun c : Dev nD => bigSep Finset.univ fun i : Due => tokenP (F := F) (c, i) := by
  unfold allTokens; rw [bigSep_map, bigSep_univ_prod]; rfl

theorem funded : BI.own (ER (initOf allCells allTokens)) ⊢ (|==> bigSep Finset.univ (dealt m) : sProp 𝕄) := by
  iintro H
  imod (Rounds.fund ER (sched (own0 m)) allCells allTokens) $$ H with ⟨Hs, Hr, Ha, Ht⟩
  imodintro
  unfold dealt; simp only [bigSep_sep']
  ihave Hs := (Entails.of_eq (over_cells fun x => roundState ER (sched (own0 m)) x 0)) $$ Hs
  ihave Ha := (Entails.of_eq (over_cells fun x => atPos ER x 0 ∅ 0)) $$ Ha
  ihave Hr := (Entails.of_eq (over_cells fun x => reached ER x 0)) $$ Hr
  ihave Ht := (Entails.of_eq (over_tokens (F := F))) $$ Ht
  iframe ∗

theorem barrier_sem (c : Dev nD) : (unscopedSems0 c : sProp 𝕄) = semVal (barC c) 0 := by
  unfold unscopedSems0; rw [bigSep_eq_bigSepL_of_eq [SemLoc.reg barS] (by decide) (by decide)]; rfl

theorem all_sems (c : Dev nD) :
    iprop(Pipeline.ownSems0 (Ix := Unit) (Name := ℕ) (U := UU) (Lvl := ℕ) (Val := Elt F) (τ := τ) osem c ∗ unscopedSems0 c)
      ⊢ (bigSep Finset.univ fun i : Cell => semVal (cell (c, i)) 0 : sProp 𝕄) := by
  have e : (Pipeline.ownSems0 (Ix := Unit) (Name := ℕ) (U := UU) (Lvl := ℕ) (Val := Elt F) (τ := τ) osem c : sProp 𝕄)
      = bigSep Finset.univ fun x : Copy ⊕ Copy => semVal (cell (c, .inr x)) 0 := rfl
  rw [e, barrier_sem, over_sum (A := Unit) (B := Copy ⊕ Copy), show (bigSep Finset.univ fun u : Unit => (semVal (cell (c, .inl u)) 0 : sProp 𝕄)) = semVal (barC c) 0 from bigSep_singleton]
  iintro ⟨HO, HB⟩
  isplitl [HB]; · iexact HB
  iexact HO

/-- A device's cells opened: what each becomes. -/
def opened (c : Dev nD) : sProp 𝕄 :=
  iprop((bigSep Finset.univ fun i : Cell => iprop(∃ κ : ℕ, cellInv ER (sched (own0 m)) κ (cell (c, i))))
    ∗ (bigSep Finset.univ fun i : Cell => atPos ER (cell (c, i)) 0 ∅ 0)
    ∗ (bigSep Finset.univ fun i : Cell => reached ER (cell (c, i)) 0)
    ∗ bigSep Finset.univ fun i : Due => tokenP (F := F) (c, i))

theorem opening (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt opened
  iintro ⟨HO, HB, Hs, Ha, Hr, Ht⟩
  ihave Hv := (all_sems (F := F) c) $$ [HO HB]
  · isplitl [HO] <;> iassumption
  imod (show iprop((bigSep Finset.univ fun i : Cell => semVal (cell (c, i)) 0) ∗ bigSep Finset.univ fun i : Cell => roundState ER (sched (own0 m)) (cell (c, i)) 0)
      ⊢ (|={Set.univ}=> bigSep Finset.univ fun i => iprop(∃ κ : ℕ, cellInv ER (sched (own0 m)) κ (cell (c, i))) : sProp 𝕄) from by
        rw [← bigSep_sep']
        exact (bigSep_mono fun i _ => (Rounds.body_intro ER (sched (own0 m)) (cell (c, i))).trans inv_alloc).trans (bigSep_fupd _ _)) $$ [Hv Hs] with HI
  · isplitl [Hv] <;> iassumption
  imodintro
  iframe ∗

/-! ## Dealing the tokens -/

theorem every_copies (P : Fin 3 → Fin 6 → sProp 𝕄) : every P = bigSep Finset.univ fun i : Copy => P i.1 i.2 := by
  rw [bigSep_univ_prod, BI.bigSep_univ_comm]
  unfold every
  exact bigSep_congr fun s _ => (over_three fun g => P g s).symm

/-- Each device holding one thing per index, and each index's things passed on from device to device. -/
theorem passed {I : Type} [Fintype I] [DecidableEq I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [BI.bigSep_univ_comm, BI.bigSep_univ_comm (fun (c : Dev nD) (i : I) => Φ i (e i c))]
  exact bigSep_congr fun i _ => bigSep_univ_equiv (e i) (Φ i)

/-- The tokens a device pays with. -/
def purse (c : Dev nD) : sProp 𝕄 :=
  iprop((bigSep Finset.univ fun j : Fin 3 => dutyTok ER (barC (Cube.flip j c)) 0 j)
    ∗ (bigSep Finset.univ fun i : Copy => dutyTok ER (sendC i.1 i.2 c) 0 0)
    ∗ bigSep Finset.univ fun i : Copy => dutyTok ER (recvC i.1 i.2 (peer i.1 i.2 c)) 0 0)

theorem tokens_dealt : (bigSep Finset.univ fun c : Dev nD => bigSep Finset.univ fun i : Due => tokenP (F := F) (c, i))
    ⊢ bigSep Finset.univ (purse (F := F)) := by
  have h (c : Dev nD) : (bigSep Finset.univ fun i : Due => tokenP (F := F) (c, i))
      = iprop((bigSep Finset.univ fun j : Fin 3 => dutyTok ER (barC c) 0 j)
        ∗ (bigSep Finset.univ fun i : Copy => dutyTok ER (sendC i.1 i.2 c) 0 0)
        ∗ bigSep Finset.univ fun i : Copy => dutyTok ER (recvC i.1 i.2 c) 0 0) := by
    rw [over_sum, over_sum]; rfl
  rw [bigSep_congr fun c _ => h c]
  unfold purse
  rw [bigSep_sep', bigSep_sep', bigSep_sep', bigSep_sep',
    passed flipE (fun (j : Fin 3) c => (dutyTok ER (barC c) 0 j : sProp 𝕄)),
    passed (fun i : Copy => flipE (ax i.1 (dep i.2))) (fun i c => (dutyTok ER (recvC i.1 i.2 c) 0 0 : sProp 𝕄))]
  exact .rfl

/-- What every device may use of every cell. -/
def shared (K : Dev nD × Cell → ℕ) : sProp 𝕄 :=
  iprop((bigSep Finset.univ fun x => cellInv ER (sched (own0 m)) (K x) (cell x)) ∗ bigSep Finset.univ fun x => reached ER (cell x) 0)

instance shared_persistent (K : Dev nD × Cell → ℕ) : BI.Persistent (shared m K) := by unfold shared; infer_instance

/-- What a device enters the kernel with, its launch credit aside. -/
def ticket (c : Dev nD) : sProp 𝕄 :=
  iprop((∃ K, shared m K) ∗ (bigSep Finset.univ fun i : Cell => atPos ER (cell (c, i)) 0 ∅ 0) ∗ purse (F := F) c)

theorem tickets : (bigSep Finset.univ (opened m) : sProp 𝕄) ⊢ bigSep Finset.univ (ticket m) := by
  unfold opened
  rw [bigSep_sep', bigSep_sep', bigSep_sep', ← bigSep_univ_prod (fun x : Dev nD × Cell => iprop(∃ κ : ℕ, cellInv ER (sched (own0 m)) κ (cell x))),
    ← bigSep_univ_prod (fun x : Dev nD × Cell => (reached ER (cell x) 0 : sProp 𝕄))]
  iintro ⟨HI, Ha, #HR, Ht⟩
  ihave HK := (BI.bigSep_exists_pi Finset.univ (fun (x : Dev nD × Cell) (κ : ℕ) => (cellInv ER (sched (own0 m)) κ (cell x) : sProp 𝕄))) $$ HI
  icases HK with ⟨%K, #HI⟩
  ihave Ht := (tokens_dealt (F := F)) $$ Ht
  have h : iprop(shared m K ∗ bigSep Finset.univ fun c : Dev nD => iprop((bigSep Finset.univ fun i : Cell => atPos ER (cell (c, i)) 0 ∅ 0) ∗ purse (F := F) c))
      ⊢ bigSep Finset.univ (ticket m) :=
    (sep_mono_left (BI.bigSep_of_persistent Finset.univ (shared m K))).trans (by
      rw [← bigSep_sep']
      exact bigSep_mono fun c _ => show iprop(shared m K ∗ (bigSep Finset.univ fun i : Cell => atPos ER (cell (c, i)) 0 ∅ 0) ∗ purse (F := F) c) ⊢ ticket m c by
        unfold ticket
        iintro ⟨#Hs, Hp⟩
        isplitr
        · iexists K; iexact Hs
        · iexact Hp)
  iapply h
  rw [bigSep_sep']
  isplitr
  · unfold shared; isplitl; · iexact HI
    iexact HR
  · isplitl [Ha]; · iexact Ha
    iexact Ht

theorem global : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ticket m) :=
  ((bigSep_mono fun c _ => opening m c).trans (bigSep_fupd _ _)).trans (BI.fupd_mono (tickets m))

/-! ## The launch credit -/

abbrev due (c : Dev nD) (g : Fin 3) (s : Fin 6) : sProp 𝕄 := cred (tallyAt (recvC g s c) () (cr (cnt s)))

theorem credit_left (c : Dev nD) (k : ℕ) : (Pipeline.launchCred (fun d => left d k) c : sProp 𝕄)
    ⊢ bigSep (Finset.range k) fun j => due (F := F) c (cg j) (cs j) := by
  induction k with
  | zero => rw [Finset.range_zero, bigSep_empty]; exact Entails.of_eq (Pipeline.launchCred_zero c)
  | succ k ih =>
    rw [Finset.range_add_one, bigSep_insert Finset.notMem_range_self]
    refine (Entails.of_eq (Pipeline.launchCred_add (fun d => left d k) (fun d => tallyAt (recvC (cg k) (cs k) (peer (cg k) (cs k) d)) () (cr (cnt (cs k)))) c)).trans ?_
    refine sep_comm.1.trans (BIClass.sep_mono ?_ ih)
    exact Pipeline.launchCred_tallyAt (SemLoc.dma (recvS (cg k) (cs k))) (peer (cg k) (cs k)) (peer (cg k) (cs k)) (peer_peer _ _) (peer_peer _ _) () _ c

theorem copies_range (Φ : Copy → sProp 𝕄) : (bigSep (Finset.range 18) fun j => Φ (cg j, cs j)) = bigSep Finset.univ Φ := by
  rw [← show (Finset.range 18).image (fun j => (cg j, cs j)) = (Finset.univ : Finset Copy) by decide,
    SparseCore.bigSep_image_of_injOn (by decide)]

theorem credits (c : Dev nD) : (Pipeline.launchCred (fun d => owed d 3) c : sProp 𝕄)
    ⊢ iprop(cred (tallyAt (barC c) () 3) ∗ bigSep Finset.univ fun i : Copy => due (F := F) c i.1 i.2) := by
  have hb (j : Fin 3) : (Pipeline.launchCred (fun d => tallyAt (barC (Cube.flip j d)) () 1) c : sProp 𝕄) ⊢ cred (tallyAt (barC c) () 1) :=
    Pipeline.launchCred_tallyAt (SemLoc.reg barS) (Cube.flip j) (Cube.flip j) (Cube.flip_flip j) (Cube.flip_flip j) () 1 c
  refine (Entails.of_eq (Pipeline.launchCred_add (fun d => left d 18 + tallyAt (barC (Cube.flip 2 d)) () 1 + tallyAt (barC (Cube.flip 1 d)) () 1)
    (fun d => tallyAt (barC (Cube.flip 0 d)) () 1) c)).trans ?_
  rw [Pipeline.launchCred_add (fun d => left d 18 + tallyAt (barC (Cube.flip 2 d)) () 1) (fun d => tallyAt (barC (Cube.flip 1 d)) () 1) c,
    Pipeline.launchCred_add (fun d => left d 18) (fun d => tallyAt (barC (Cube.flip 2 d)) () 1) c]
  have h3 : iprop(cred (tallyAt (barC c) () 1) ∗ cred (tallyAt (barC c) () 1) ∗ cred (tallyAt (barC c) () 1)) ⊢ (cred (tallyAt (barC c) () 3) : sProp 𝕄) := by
    rw [show (tallyAt (barC c) () 3 : CellTallies nD τ sig Unit) = tallyAt (barC c) () 1 + (tallyAt (barC c) () 1 + tallyAt (barC c) () 1) by
      rw [tallyAt_add, tallyAt_add]]
    exact (sep_mono_right (cred_add _ _).2).trans (cred_add _ _).2
  iintro ⟨⟨⟨HL, H2⟩, H1⟩, H0⟩
  ihave HL := (credit_left c 18) $$ HL
  ihave H0 := (hb 0) $$ H0
  ihave H1 := (hb 1) $$ H1
  ihave H2 := (hb 2) $$ H2
  isplitl [H0 H1 H2]
  · iapply h3; iframe ∗
  · ihave HL := (Entails.of_eq (copies_range fun i => due (F := F) c i.1 i.2)) $$ HL
    iexact HL

/-! ## A device's entry and exit -/

theorem enters (K : Dev nD × Cell → ℕ) (c : Dev nD) :
    iprop((shared m K ∗ levAts L lv) ∗ (bigSep Finset.univ fun i : Cell => atPos ER (cell (c, i)) 0 ∅ 0) ∗ purse (F := F) c
        ∗ cred (tallyAt (barC c) () 3) ∗ bigSep Finset.univ fun i : Copy => due (F := F) c i.1 i.2)
      ⊢ start m K c := by
  unfold start known shared purse tolls ready rest
  rw [every_copies, over_sum, over_sum, bigSep_sep', bigSep_sep', bigSep_sep', bigSep_sep',
    over_three,
    show (bigSep Finset.univ fun u : Unit => (atPos ER (cell (c, .inl u)) 0 ∅ 0 : sProp 𝕄)) = atPos ER (barC c) 0 ∅ 0 from bigSep_singleton]
  iintro ⟨⟨⟨#HI, #HR⟩, #Hl⟩, ⟨HaB, HaS, HaR⟩, ⟨HtB, HtS, HtR⟩, Hb, Hc⟩
  isplitr
  · isplitl; · iexact HI
    isplitl; · iexact HR
    iexact Hl
  isplitl [HtB]; · iexact HtB
  isplitl [Hb]; · iexact Hb
  isplitl [HaB]; · iexact HaB
  isplitl [HtS HtR]
  · isplitl [HtS]; · iexact HtS
    iexact HtR
  isplitl [Hc]; · iexact Hc
  isplitl [HaS]; · iexact HaS
  iexact HaR

theorem entry (c : Dev nD) :
    iprop(Pipeline.unscopedRestP Pipeline.Prefetch.none cfg0.spec c (fun b => m ((c : Thread nD τ).loc b)) ∗ levAts L lv
        ∗ Pipeline.launchCred (fun d => owed d 3) c ∗ prngReg c (ρ c) ∗ ticket m c)
      ⊢ |={Set.univ}=> iprop((∃ K, start m K c) ∗ emp) := by
  unfold ticket
  iintro ⟨-, #Hl, Hcr, -, ⟨%K, #Hs⟩, Ha, Hp⟩
  ihave ⟨Hb, Hc⟩ := (credits (F := F) c) $$ Hcr
  imodintro
  isplitl
  · iexists K
    iapply (enters m K c)
    isplitr
    · isplitl; · iexact Hs
      iexact Hl
    iframe ∗
  · iempintro

theorem begins (c : Dev nD) :
    iprop((∃ K, start m K c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

theorem ends (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq, barrier_sem]
  unfold after scratch done Pipeline.ownSems0
  rw [every_copies, bigSep_sep', over_sum]
  iintro ⟨Hr, Hb, HS, HR⟩
  isplitl [Hb]; · iexact Hb
  isplitl [HS HR]
  · isplitl [HS]; · iexact HS
    iexact HR
  iexact Hr

theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> exact Nat.le_of_eq rfl) _ fun x u hx => by
      have h3 : 0 < owed c 3 x u := by
        rcases t with ⟨_ | _, ht⟩
        · exact hx
        · exact absurd hx (by show ¬ 0 < (0 : ℕ); omega)
      rcases owed_pos h3 with ⟨d, rfl⟩ | ⟨d, g, s, rfl⟩
      · exact ⟨rfl, Nat.zero_lt_one⟩
      · exact ⟨rfl, by rw [lv_recv]; omega⟩

theorem share_whole (c : Dev nD) (w : Fin cfg0.W) : (dats m 0 c).share w = fullShare := by unfold Dat.share; split <;> rfl

/-! ## The whole program -/

/-- What window `w`'s array holds at the end. -/
def final (c : Dev nD) (w : Fin cfg0.W) : Buf (Elt F) ((cfg0.win w).arr.view.loc (c : Thread nD τ)) := (dats m 0 c).arrAt w cfg0.N

set_option maxRecDepth 8000 in
/-- Every fair run of the program from any memory ends, with every array as `final` has it and every semaphore at zero. -/
theorem runs : θ_run defs (onTc (τ := τ) (main (F := F))) ⟨m, fun _ => 0, ρ⟩ (fun r =>
    (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ Variants.none m ρ main
    (hmain := fun _ => rfl)
    (hbody := sound m) (hne := fun w => by fin_cases w <;> exact Nat.succ_pos _) (harr := arr_whole0) (hstage := stage_whole0) (hshare := share_whole m)
    (hdistinct := winFacts0.arr_inj)
    (O₀ := fun c => owed c 3) (howed₀ := fun _ => rfl) (howedN := fun _ => rfl)
    (L := L) (lv := lv) (hL := L_of_ne) (hwaits := waits m)
    (G := dealt m) (G' := ticket m) (u₀ := seed)
    (hu₀ := by
      unfold seed
      iintro Hu
      ihave H := (ownU_pair _ _) $$ Hu
      icases H with ⟨HP, HX⟩
      imod (funded m) $$ HX with HG
      imodintro
      isplitl [HP] <;> iassumption)
    (hglob := global m)
    (hA := fun _ _ => rfl) (hpf := fun _ k => k.elim0)
    (X := fun c => iprop(∃ K, start m K c)) (Y := fun c => unscopedSems0 c) (Z := fun _ => iprop(emp))
    (hX := entry m ρ) (hin := begins m) (hout := ends m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two inputs are as they were. -/
theorem final_left (c : Dev nD) : final m c (0 : Fin 3) = m (win0_0.arr.view.loc (c : Thread nD τ)) := (dats m 0 c).arrAt_in (0 : Fin 3) rfl _
theorem final_right (c : Dev nD) : final m c (1 : Fin 3) = m (win0_1.arr.view.loc (c : Thread nD τ)) := (dats m 0 c).arrAt_in (1 : Fin 3) rfl _

end Cert.Exchange
-- ==== Proof.Value.lean ====
/-
  What the program leaves, in exact arithmetic: on every device, the product of the two whole matrices.
-/
module

public import proofs.«01_k».proof.Proof.Launch
public import Idealize.ShloMosaic.Lib.Pipeline.ValueKit
public import Idealize.ShloMosaic.Lib.Layout
public import Idealize.ShloMosaic.Lib.MatmulPlain
public import Idealize.ShloMosaic.Lib.StackMember
public import Idealize.ShloMosaic.PureOps.Ideal

@[expose] public section

noncomputable section

namespace Cert.Exchange

open Cert.KernelIdeal Cert.KernelIdeal.Gen Cert.Cube
open Idealize.ShloMosaic Idealize.ShloMosaic.TcCoe Idealize.SL.Sem
open scoped BigOperators

section Any

variable {F : FTy → Type} [FloatOps F] (m : (ℓ : Loc nD τ sig) → Buf (Elt F) ℓ) (ρ : Dev nD → PrngReg)

theorem final_out (c : Dev nD) : final m c (2 : Fin 3) = total (own0 m) :=
  (dats m 0 c).arrAt_eq_of_after_last (2 : Fin 3) t0_0 (by decide +kernel) _ fun _ => rfl

/-- A device's own blocks are its whole arguments. -/
theorem left0_eq (c : Dev nD) : left0 m c = m ((c : Thread nD τ).loc main_arg0) := by
  funext i
  exact congrArg (m ((c : Thread nD τ).loc main_arg0)) (by funext a; apply Fin.ext; match a with | 0 => simp; rfl | 1 => simp; rfl)
theorem right0_eq (c : Dev nD) : right0 m c = m ((c : Thread nD τ).loc main_arg1) := by
  funext i
  exact congrArg (m ((c : Thread nD τ).loc main_arg1)) (by funext a; apply Fin.ext; match a with | 0 => simp; rfl | 1 => simp; rfl)

/-- The run, in the words of the claims. -/
theorem leaves_total : θ_run defs (onTc (τ := τ) (main (F := F))) ⟨m, fun _ => 0, ρ⟩ (fun r =>
    (∀ c : Dev nD, r.2.mem ((c : Thread nD τ).loc main_v1) = total (own0 m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m c), (h.1 c (0 : Fin 3)).trans (final_left m c),
    (h.1 c (1 : Fin 3)).trans (final_right m c)⟩, h.2⟩) (runs m ρ)

end Any

/-! ## In exact arithmetic -/

variable (m : (ℓ : Loc nD τ sig) → Buf (Elt Ideal) ℓ)

/-- One device's product, entry by entry. -/
theorem own0_apply (c : Dev nD) (i : Fin 768) (j : Fin 768) :
    own0 (F := Ideal) m c (ValueIdx.ix2 i j) = ∑ k : Fin 384, left0 m c (ValueIdx.ix2 i k) * right0 m c (ValueIdx.ix2 k j) := by
  unfold own0 k0_pay1
  rw [shapeCast_self, shapeCast_self]
  refine (Ideal.matmul_plain_apply none (left0 m c) (right0 m c) _ i j).trans ?_
  refine (congrArg (· + _) Ideal.ofBits_zero_f32).trans (zero_add _)

/-- If the devices hold the blocks of two whole matrices, the exchange leaves their product on each. -/
theorem total_product (A : (⟨2, ![768, 3072]⟩ : Shape).Idx → EReal) (B : (⟨2, ![3072, 768]⟩ : Shape).Idx → EReal)
    (hA : ∀ c : Dev nD, m ((c : Thread nD τ).loc main_arg0) = Layout.block ⟨2, ![768, 384]⟩ ⟨2, ![768, 3072]⟩ 1 8 c A)
    (hB : ∀ c : Dev nD, m ((c : Thread nD τ).loc main_arg1) = Layout.block ⟨2, ![384, 768]⟩ ⟨2, ![3072, 768]⟩ 0 8 c B) :
    total (own0 (F := Ideal) m) = Host.dotGeneral (F := Ideal) (φ₁ := .f32) (φ₂ := .f32) (DotDims.plain 768 3072 768) none A B := by
  funext x
  rw [ValueIdx.eq_ix2 x]
  refine Eq.trans ?_ (StackMember.dotGeneral_plain_apply none A B (x 0) (x 1)).symm
  refine (acc_three (β := EReal) (own0 (F := Ideal) m) _ _ _).trans ?_
  rw [← Equiv.sum_comp (finProdFinEquiv (m := 8) (n := 384)), Fintype.sum_prod_type]
  refine Finset.sum_congr rfl fun d _ => (own0_apply m d _ _).trans (Finset.sum_congr rfl fun k _ => ?_)
  rw [left0_eq, right0_eq, hA d, hB d, Layout.block_apply, Layout.block_apply]
  have e (a b : ℕ) : a * 384 + b = b + 384 * a := by omega
  congr 2
  · exact Shape.idx_ext₂ rfl (e _ _)
  · exact Shape.idx_ext₂ (e _ _) rfl

end Cert.Exchange
-- ==== Proof.Same.lean ====
/-
  The program as printed and its idealization are the same text, read at different values: what is proved of the one's
  runs holds of the other's.
-/
module

public import proofs.«01_k».proof.Proof.Value
public import proofs.«01_k».proof.Proof.Gen.Kernel

@[expose] public section

set_option maxRecDepth 65536

noncomputable section

namespace Cert.Exchange

open Idealize.ShloMosaic Idealize.ShloMosaic.TcCoe Idealize.SL.Sem

variable {F : FTy → Type} [FloatOps F]

theorem bodies_same : Cert.Kernel.defs₀ (F := F) = Cert.KernelIdeal.defs₀ (F := F) := by
  funext p l a
  match p, l, a with
  | .tc, 0, (t, s) => exact rfl
  | .scScalar _, l, a => rfl
  | .scVector _ _, l, a => rfl

theorem defs_same : Cert.Kernel.defs (F := F) = Cert.KernelIdeal.defs (F := F) := by
  unfold Cert.Kernel.defs Cert.KernelIdeal.defs
  exact congrArg (Pipeline.defs Cert.KernelIdeal.pcfgs) (bodies_same (F := F))

/-- The printed program's run: it ends, its arguments as they were and every semaphore at zero. -/
theorem kernel_runs (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  show θ_run (Cert.Kernel.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0)
          = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
          = m ((c : Thread Cert.KernelIdeal.nD Cert.KernelIdeal.τ).loc Cert.KernelIdeal.main_arg1))
      ∧ r.2.sem = fun _ => 0)
  rw [defs_same]
  exact (θ_run Cert.KernelIdeal.defs _ _).mono (fun _ h => ⟨fun c => (h.1 c).2, h.2⟩) (leaves_total (F := F) m ρ)

end Cert.Exchange
-- ==== Proof.lean ====
/-
  The five claims. The kernel's run and what it leaves are proved once, for any reading of the floating-point operations
  (Proof/Launch.lean), and read here at the chip's words and in exact arithmetic; in exact arithmetic what it leaves is
  the reference's product (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

theorem kernel_quiescent : Cert.quiescent_Kernel := fun m g _ => Cert.Exchange.kernel_runs (F := Bits) m g

theorem ideal_quiescent : Cert.quiescent_KernelIdeal := fun m g _ =>
  (θ_run Cert.KernelIdeal.defs _ _).mono (fun _ h => ⟨fun c => (h.1 c).2, h.2⟩) (Cert.Exchange.leaves_total (F := Ideal) m g)

/-- The reference has no semaphore to leave raised. -/
theorem reference_quiescent : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both programs leave the product of the whole matrices. -/
theorem product : Cert.algebraic_KernelIdeal_ReferenceIdeal := fun m g m' g' _ hagree =>
  ⟨_, (θ_run Cert.KernelIdeal.defs _ _).mono
      (fun _ h c => ⟨(h.1 c).1.trans (Cert.Exchange.total_product m _ _ (fun c => (hagree c).1) (fun c => (hagree c).2)), (h.1 c).2⟩)
      (Cert.Exchange.leaves_total (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  kernel_quiescent, ideal_quiescent, reference_quiescent, trivial, product⟩

end Cert.Proof

end
